-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x128 : Shape := ⟨2, ![512, 128]⟩
abbrev S256x128x128 : Shape := ⟨3, ![256, 128, 128]⟩
abbrev S8192x128 : Shape := ⟨2, ![8192, 128]⟩
abbrev S4x32768 : Shape := ⟨2, ![4, 32768]⟩
abbrev S1x32768 : Shape := ⟨2, ![1, 32768]⟩
abbrev S32768x128 : Shape := ⟨2, ![32768, 128]⟩
abbrev S128x512 : Shape := ⟨2, ![128, 512]⟩
abbrev S384x512 : Shape := ⟨2, ![384, 512]⟩
abbrev S8x128x128 : Shape := ⟨3, ![8, 128, 128]⟩
abbrev S256x128 : Shape := ⟨2, ![256, 128]⟩
abbrev S4x1024 : Shape := ⟨2, ![4, 1024]⟩
abbrev S1x1024 : Shape := ⟨2, ![1, 1024]⟩
abbrev S1024x128 : Shape := ⟨2, ![1024, 128]⟩
abbrev S1x128x128 : Shape := ⟨3, ![1, 128, 128]⟩
abbrev S128x128 : Shape := ⟨2, ![128, 128]⟩
abbrev S512x512 : Shape := ⟨2, ![512, 512]⟩
abbrev S1x512 : Shape := ⟨2, ![1, 512]⟩
abbrev S512 : Shape := ⟨1, ![512]⟩
abbrev S32x512 : Shape := ⟨2, ![32, 512]⟩

abbrev nBuf : Space → Nat
  | .hbm => 20
  | .vmem => 21
  | .smem => 0
  | _ => 0

abbrev bufTy : (tb : Table) → Fin (tcTables nBuf tb) → BufTy
  | .hbm, ⟨0, _⟩ => ⟨S512x128, .f32⟩
  | .hbm, ⟨1, _⟩ => ⟨S256x128x128, .i32⟩
  | .hbm, ⟨2, _⟩ => ⟨S8192x128, .i32⟩
  | .hbm, ⟨3, _⟩ => ⟨S4x32768, .f32⟩
  | .hbm, ⟨4, _⟩ => ⟨S4x32768, .f32⟩
  | .hbm, ⟨5, _⟩ => ⟨S1x32768, .f32⟩
  | .hbm, ⟨6, _⟩ => ⟨S32768x128, .i32⟩
  | .hbm, ⟨7, _⟩ => ⟨S128x512, .f32⟩
  | .hbm, ⟨8, _⟩ => ⟨S128x512, .bf16⟩
  | .hbm, ⟨9, _⟩ => ⟨S128x512, .f32⟩
  | .hbm, ⟨10, _⟩ => ⟨S128x512, .f32⟩
  | .hbm, ⟨11, _⟩ => ⟨S128x512, .bf16⟩
  | .hbm, ⟨12, _⟩ => ⟨S128x512, .f32⟩
  | .hbm, ⟨13, _⟩ => ⟨S128x512, .f32⟩
  | .hbm, ⟨14, _⟩ => ⟨S128x512, .bf16⟩
  | .hbm, ⟨15, _⟩ => ⟨S384x512, .bf16⟩
  | .hbm, ⟨16, _⟩ => ⟨S32768x128, .i8⟩
  | .hbm, ⟨17, _⟩ => ⟨S4x32768, .f32⟩
  | .hbm, ⟨18, _⟩ => ⟨S4x32768, .f32⟩
  | .hbm, ⟨19, _⟩ => ⟨S1x32768, .f32⟩
  | .local _ .vmem, ⟨0, _⟩ => ⟨S8x128x128, .i32⟩
  | .local _ .vmem, ⟨1, _⟩ => ⟨S8x128x128, .i32⟩
  | .local _ .vmem, ⟨2, _⟩ => ⟨S384x512, .bf16⟩
  | .local _ .vmem, ⟨3, _⟩ => ⟨S256x128, .i32⟩
  | .local _ .vmem, ⟨4, _⟩ => ⟨S256x128, .i32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | .local _ .vmem, ⟨8, _⟩ => ⟨S4x1024, .f32⟩
  | .local _ .vmem, ⟨9, _⟩ => ⟨S1x1024, .f32⟩
  | .local _ .vmem, ⟨10, _⟩ => ⟨S1x1024, .f32⟩
  | .local _ .vmem, ⟨11, _⟩ => ⟨S1024x128, .i32⟩
  | .local _ .vmem, ⟨12, _⟩ => ⟨S1024x128, .i32⟩
  | .local _ .vmem, ⟨13, _⟩ => ⟨S1024x128, .i8⟩
  | .local _ .vmem, ⟨14, _⟩ => ⟨S1024x128, .i8⟩
  | .local _ .vmem, ⟨15, _⟩ => ⟨S4x1024, .f32⟩
  | .local _ .vmem, ⟨16, _⟩ => ⟨S4x1024, .f32⟩
  | .local _ .vmem, ⟨17, _⟩ => ⟨S4x1024, .f32⟩
  | .local _ .vmem, ⟨18, _⟩ => ⟨S4x1024, .f32⟩
  | .local _ .vmem, ⟨19, _⟩ => ⟨S1x1024, .f32⟩
  | .local _ .vmem, ⟨20, _⟩ => ⟨S1x1024, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S512x128 : Shape := ⟨2, ![512, 128]⟩
abbrev S256x128x128 : Shape := ⟨3, ![256, 128, 128]⟩
abbrev S8192x128 : Shape := ⟨2, ![8192, 128]⟩
abbrev S4x32768 : Shape := ⟨2, ![4, 32768]⟩
abbrev S1x32768 : Shape := ⟨2, ![1, 32768]⟩
abbrev S32768x128 : Shape := ⟨2, ![32768, 128]⟩
abbrev S_ : Shape := ⟨0, ![]⟩
abbrev S32768x128x1 : Shape := ⟨3, ![32768, 128, 1]⟩
abbrev S32768x128x4 : Shape := ⟨3, ![32768, 128, 4]⟩
abbrev S32768x512 : Shape := ⟨2, ![32768, 512]⟩
abbrev S64x128x128 : Shape := ⟨3, ![64, 128, 128]⟩
abbrev S64x1x128x128 : Shape := ⟨4, ![64, 1, 128, 128]⟩
abbrev S64x4x128x128 : Shape := ⟨4, ![64, 4, 128, 128]⟩
abbrev S32768x4x32 : Shape := ⟨3, ![32768, 4, 32]⟩
abbrev S32768x4 : Shape := ⟨2, ![32768, 4]⟩
abbrev S32768x4x1 : Shape := ⟨3, ![32768, 4, 1]⟩
abbrev S32768 : Shape := ⟨1, ![32768]⟩
abbrev S32768x1x1 : Shape := ⟨3, ![32768, 1, 1]⟩

abbrev nBuf : Space → Nat
  | .hbm => 146
  | .vmem => 0
  | .smem => 0
  | _ => 0

abbrev hbmTy0_0 (i : Nat) : BufTy := match i % 128 with
  | 0 => ⟨S512x128, .f32⟩
  | 1 => ⟨S256x128x128, .i32⟩
  | 2 => ⟨S8192x128, .i32⟩
  | 3 => ⟨S4x32768, .f32⟩
  | 4 => ⟨S4x32768, .f32⟩
  | 5 => ⟨S1x32768, .f32⟩
  | 6 => ⟨S32768x128, .i32⟩
  | 7 => ⟨S256x128x128, .i32⟩
  | 8 => ⟨S32768x128, .i32⟩
  | 9 => ⟨S_, .i32⟩
  | 10 => ⟨S32768x128, .i32⟩
  | 11 => ⟨S32768x128, .i32⟩
  | 12 => ⟨S_, .i32⟩
  | 13 => ⟨S32768x128, .i32⟩
  | 14 => ⟨S32768x128, .i32⟩
  | 15 => ⟨S_, .i32⟩
  | 16 => ⟨S32768x128, .i32⟩
  | 17 => ⟨S32768x128, .i32⟩
  | 18 => ⟨S_, .i32⟩
  | 19 => ⟨S32768x128, .i32⟩
  | 20 => ⟨S32768x128, .i32⟩
  | 21 => ⟨S_, .i32⟩
  | 22 => ⟨S32768x128, .i32⟩
  | 23 => ⟨S32768x128, .i32⟩
  | 24 => ⟨S_, .i32⟩
  | 25 => ⟨S32768x128, .i32⟩
  | 26 => ⟨S32768x128, .i32⟩
  | 27 => ⟨S_, .i32⟩
  | 28 => ⟨S32768x128, .i32⟩
  | 29 => ⟨S32768x128, .i32⟩
  | 30 => ⟨S_, .i32⟩
  | 31 => ⟨S32768x128, .i32⟩
  | 32 => ⟨S32768x128, .i32⟩
  | 33 => ⟨S32768x128x1, .i32⟩
  | 34 => ⟨S32768x128x1, .i32⟩
  | 35 => ⟨S32768x128x1, .i32⟩
  | 36 => ⟨S32768x128x1, .i32⟩
  | 37 => ⟨S32768x128x4, .i32⟩
  | 38 => ⟨S32768x512, .i32⟩
  | 39 => ⟨S32768x512, .f32⟩
  | 40 => ⟨S32768x128, .f32⟩
  | 41 => ⟨S64x128x128, .i32⟩
  | 42 => ⟨S_, .i32⟩
  | 43 => ⟨S64x128x128, .i32⟩
  | 44 => ⟨S64x128x128, .i32⟩
  | 45 => ⟨S_, .i32⟩
  | 46 => ⟨S64x128x128, .i32⟩
  | 47 => ⟨S64x128x128, .i32⟩
  | 48 => ⟨S_, .i32⟩
  | 49 => ⟨S64x128x128, .i32⟩
  | 50 => ⟨S64x128x128, .i32⟩
  | 51 => ⟨S_, .i32⟩
  | 52 => ⟨S64x128x128, .i32⟩
  | 53 => ⟨S64x128x128, .i32⟩
  | 54 => ⟨S_, .i32⟩
  | 55 => ⟨S64x128x128, .i32⟩
  | 56 => ⟨S64x128x128, .i32⟩
  | 57 => ⟨S_, .i32⟩
  | 58 => ⟨S64x128x128, .i32⟩
  | 59 => ⟨S64x128x128, .i32⟩
  | 60 => ⟨S_, .i32⟩
  | 61 => ⟨S64x128x128, .i32⟩
  | 62 => ⟨S64x128x128, .i32⟩
  | 63 => ⟨S_, .i32⟩
  | 64 => ⟨S64x128x128, .i32⟩
  | 65 => ⟨S64x128x128, .i32⟩
  | 66 => ⟨S64x1x128x128, .i32⟩
  | 67 => ⟨S64x1x128x128, .i32⟩
  | 68 => ⟨S64x1x128x128, .i32⟩
  | 69 => ⟨S64x1x128x128, .i32⟩
  | 70 => ⟨S64x4x128x128, .i32⟩
  | 71 => ⟨S32768x128, .i32⟩
  | 72 => ⟨S32768x128, .f32⟩
  | 73 => ⟨S32768x4x32, .f32⟩
  | 74 => ⟨S32768x4, .f32⟩
  | 75 => ⟨S32768x4x1, .f32⟩
  | 76 => ⟨S32768x4x32, .f32⟩
  | 77 => ⟨S32768x4x32, .f32⟩
  | 78 => ⟨S32768x4, .f32⟩
  | 79 => ⟨S32768x4x1, .f32⟩
  | 80 => ⟨S32768x4x32, .f32⟩
  | 81 => ⟨S32768x4x32, .f32⟩
  | 82 => ⟨S32768, .f32⟩
  | 83 => ⟨S32768x128, .f32⟩
  | 84 => ⟨S_, .f32⟩
  | 85 => ⟨S32768, .f32⟩
  | 86 => ⟨S_, .f32⟩
  | 87 => ⟨S32768, .f32⟩
  | 88 => ⟨S32768, .f32⟩
  | 89 => ⟨S32768, .f32⟩
  | 90 => ⟨S32768, .f32⟩
  | 91 => ⟨S_, .f32⟩
  | 92 => ⟨S32768, .f32⟩
  | 93 => ⟨S32768, .f32⟩
  | 94 => ⟨S_, .f32⟩
  | 95 => ⟨S32768, .f32⟩
  | 96 => ⟨S32768, .f32⟩
  | 97 => ⟨S32768x1x1, .f32⟩
  | 98 => ⟨S32768x4x32, .f32⟩
  | 99 => ⟨S32768x4x32, .f32⟩
  | 100 => ⟨S32768x4x32, .f32⟩
  | 101 => ⟨S32768x4x32, .f32⟩
  | 102 => ⟨S_, .f32⟩
  | 103 => ⟨S32768x4, .f32⟩
  | 104 => ⟨S_, .f32⟩
  | 105 => ⟨S32768x4, .f32⟩
  | 106 => ⟨S32768x4, .f32⟩
  | 107 => ⟨S_, .f32⟩
  | 108 => ⟨S32768x4, .f32⟩
  | 109 => ⟨S32768x4, .f32⟩
  | 110 => ⟨S_, .f32⟩
  | 111 => ⟨S32768x4, .f32⟩
  | 112 => ⟨S32768x4, .f32⟩
  | 113 => ⟨S_, .f32⟩
  | 114 => ⟨S32768x4, .f32⟩
  | 115 => ⟨S32768x4, .f32⟩
  | 116 => ⟨S32768x4x1, .f32⟩
  | 117 => ⟨S32768x4x32, .f32⟩
  | 118 => ⟨S32768x4x32, .f32⟩
  | 119 => ⟨S32768x4x1, .f32⟩
  | 120 => ⟨S32768x4x32, .f32⟩
  | 121 => ⟨S32768x4x32, .f32⟩
  | 122 => ⟨S_, .i32⟩
  | 123 => ⟨S32768x128, .i32⟩
  | 124 => ⟨S32768x128, .i32⟩
  | 125 => ⟨S32768x128, .f32⟩
  | 126 => ⟨S_, .f32⟩
  | 127 => ⟨S32768x128, .f32⟩
  | _ => ⟨S512x128, .f32⟩

abbrev hbmTy0_1 (i : Nat) : BufTy := match i % 128 with
  | 0 => ⟨S32768x128, .f32⟩
  | 1 => ⟨S32768x4x32, .f32⟩
  | 2 => ⟨S32768x4x32, .f32⟩
  | 3 => ⟨S32768x4x32, .f32⟩
  | 4 => ⟨S_, .f32⟩
  | 5 => ⟨S_, .f32⟩
  | 6 => ⟨S_, .f32⟩
  | 7 => ⟨S32768x4x32, .f32⟩
  | 8 => ⟨S32768x4x32, .f32⟩
  | 9 => ⟨S_, .f32⟩
  | 10 => ⟨S32768x4x32, .f32⟩
  | 11 => ⟨S32768x4x32, .f32⟩
  | 12 => ⟨S32768x128, .f32⟩
  | 13 => ⟨S32768x128, .i32⟩
  | 14 => ⟨S32768x128, .i8⟩
  | 15 => ⟨S4x32768, .f32⟩
  | 16 => ⟨S4x32768, .f32⟩
  | 17 => ⟨S1x32768, .f32⟩
  | _ => ⟨S512x128, .f32⟩

abbrev hbmTy (i : Nat) : BufTy := match i / 128 with
  | 0 => hbmTy0_0 i
  | 1 => hbmTy0_1 i
  | _ => ⟨S512x128, .f32⟩

abbrev bufTy : (tb : Table) → Fin (tcTables nBuf tb) → BufTy
  | .hbm, ⟨i, _⟩ => hbmTy i
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_c_5 : Ref sig .tc := ⟨.hbm, 27, rfl⟩
abbrev main_v14 : Ref sig .tc := ⟨.hbm, 28, rfl⟩
abbrev main_v15 : Ref sig .tc := ⟨.hbm, 29, rfl⟩
abbrev main_c_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_v27 : Ref sig .tc := ⟨.hbm, 43, rfl⟩
abbrev main_v28 : Ref sig .tc := ⟨.hbm, 44, rfl⟩
abbrev main_c_8 : Ref sig .tc := ⟨.hbm, 45, rfl⟩
abbrev main_v29 : Ref sig .tc := ⟨.hbm, 46, rfl⟩
abbrev main_v30 : Ref sig .tc := ⟨.hbm, 47, rfl⟩
abbrev main_c_9 : Ref sig .tc := ⟨.hbm, 48, rfl⟩
abbrev main_v31 : Ref sig .tc := ⟨.hbm, 49, rfl⟩
abbrev main_v32 : Ref sig .tc := ⟨.hbm, 50, rfl⟩
abbrev main_c_10 : Ref sig .tc := ⟨.hbm, 51, rfl⟩
abbrev main_v33 : Ref sig .tc := ⟨.hbm, 52, rfl⟩
abbrev main_v34 : Ref sig .tc := ⟨.hbm, 53, rfl⟩
abbrev main_c_11 : Ref sig .tc := ⟨.hbm, 54, rfl⟩
abbrev main_v35 : Ref sig .tc := ⟨.hbm, 55, rfl⟩
abbrev main_v36 : Ref sig .tc := ⟨.hbm, 56, rfl⟩
abbrev main_c_12 : Ref sig .tc := ⟨.hbm, 57, rfl⟩
abbrev main_v37 : Ref sig .tc := ⟨.hbm, 58, rfl⟩
abbrev main_v38 : Ref sig .tc := ⟨.hbm, 59, rfl⟩
abbrev main_c_13 : Ref sig .tc := ⟨.hbm, 60, rfl⟩
abbrev main_v39 : Ref sig .tc := ⟨.hbm, 61, rfl⟩
abbrev main_v40 : Ref sig .tc := ⟨.hbm, 62, rfl⟩
abbrev main_c_14 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst : Ref sig .tc := ⟨.hbm, 84, rfl⟩
abbrev main_v61 : Ref sig .tc := ⟨.hbm, 85, rfl⟩
abbrev main_cst_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩
abbrev main_cst_17 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_18 : Ref sig .tc := ⟨.hbm, 102, rfl⟩
abbrev main_v75 : Ref sig .tc := ⟨.hbm, 103, rfl⟩
abbrev main_cst_19 : Ref sig .tc := ⟨.hbm, 104, rfl⟩
abbrev main_v76 : Ref sig .tc := ⟨.hbm, 105, rfl⟩
abbrev main_v77 : Ref sig .tc := ⟨.hbm, 106, rfl⟩
abbrev main_cst_20 : Ref sig .tc := ⟨.hbm, 107, rfl⟩
abbrev main_v78 : Ref sig .tc := ⟨.hbm, 108, rfl⟩
abbrev main_v79 : Ref sig .tc := ⟨.hbm, 109, rfl⟩
abbrev main_cst_21 : Ref sig .tc := ⟨.hbm, 110, rfl⟩
abbrev main_v80 : Ref sig .tc := ⟨.hbm, 111, rfl⟩
abbrev main_v81 : Ref sig .tc := ⟨.hbm, 112, rfl⟩
abbrev main_cst_22 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_23 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_24 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_25 : Ref sig .tc := ⟨.hbm, 132, rfl⟩
abbrev main_cst_26 : Ref sig .tc := ⟨.hbm, 133, rfl⟩
abbrev main_call0_v0 : Ref sig .tc := ⟨.hbm, 134, rfl⟩
abbrev main_call0_v1 : Ref sig .tc := ⟨.hbm, 135, rfl⟩
abbrev main_call0_v2 : Ref sig .tc := ⟨.hbm, 136, rfl⟩
abbrev main_call0_v3 : Ref sig .tc := ⟨.hbm, 137, rfl⟩
abbrev main_call0_v4 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩

abbrev nD : Nat := 1
abbrev τ : Topo := Topo.v7x

variable {F : FTy → Type} [FloatOps F]
-- ==== Proof.Spec.lean ====
/-
  Hand-written, untrusted. One row of the update as plain formulas over the extended reals: its gradient sum, its
  optimiser state, the learning rate over the root of the state, the dequantised weights less the scaled gradient, and
  their quantisation in four blocks of 32. Both programs are read into these formulas (Ref.lean, Kern.lean).
-/
module

public import Idealize.ShloMosaic.Lib.Pointwise

@[expose] public section

noncomputable section

namespace Cert.Proof.Spec

open Idealize.ShloMosaic

/-- The word `c` read as a binary32 number. -/
abbrev f32c (c : BitVec 32) : EReal := Ideal.ofBits .f32 c

/-- Byte `j` of a word, read with its sign. -/
def sByte (w : BitVec 32) (j : ℕ) : EReal := (((w.extractLsb' (8 * j) 8).toInt : ℝ) : EReal)

/-- Byte `j` of a word, read without sign. -/
def uByte (w : BitVec 32) (j : ℕ) : EReal := ((((w >>> (8 * j)) &&& 255#32).toInt : ℝ) : EReal)

/-- Entry `r` of block `k` of a row of 128. -/
def at32 (k : Fin 4) (r : Fin 32) : Fin 128 := ⟨32 * k.val + r.val, by omega⟩

/-- The block of an entry of a row, and its place in the block. -/
def kOf (d : Fin 128) : Fin 4 := ⟨d.val / 32, by omega⟩
@[inherit_doc kOf] def rOf (d : Fin 128) : Fin 32 := ⟨d.val % 32, by omega⟩

theorem at32_kOf (d : Fin 128) : at32 (kOf d) (rOf d) = d := Fin.ext (by show 32 * (d.val / 32) + d.val % 32 = d.val; omega)

/-- The optimiser state of a row after the step: the old state and the mean square of the gradient. -/
def stateRow (g : Fin 128 → EReal) (mom : EReal) : EReal := mom + (∑ d, g d * g d) * f32c 0x3C000000#32

/-- The learning rate over the root of the state. -/
def multRow (st : EReal) : EReal := Ideal.div (f32c 0x3CA3D70A#32) (Ideal.sqrt st + f32c 0x322BCC77#32)

/-- The updated weight at one entry. -/
def wAt (c s b mult g : EReal) : EReal := c * s + b - mult * g

/-- The updated weights of block `k`. -/
def wRow (g c : Fin 128 → EReal) (s b : Fin 4 → EReal) (mom : EReal) (k : Fin 4) (r : Fin 32) : EReal :=
  wAt (c (at32 k r)) (s k) (b k) (multRow (stateRow g mom)) (g (at32 k r))

/-- The least and the greatest entry of a block, and the range. -/
def mnOf (w : Fin 32 → EReal) : EReal := Finset.univ.fold min (f32c 0x7F800000#32) w
@[inherit_doc mnOf] def mxOf (w : Fin 32 → EReal) : EReal := Finset.univ.fold max (f32c 0xFF800000#32) w
@[inherit_doc mnOf] def rngOf (w : Fin 32 → EReal) : EReal := mxOf w - mnOf w

/-- The new scale of a block. -/
def scaleOf (w : Fin 32 → EReal) : EReal := Ideal.div (rngOf w) (f32c 0x437F0000#32)

/-- An entry of a block, scaled to the range of the codes. -/
def vOf (w : Fin 32 → EReal) (r : Fin 32) : EReal :=
  (w r - mnOf w) * Ideal.div (f32c 0x437F0000#32) (rngOf w + f32c 0x322BCC77#32)

/-- The code of a scaled entry: the random number added, rounded down, held in the range, converted. -/
def quant (v : EReal) (bits : BitVec 32) : BitVec 8 :=
  BitVec.setWidth 8 (Ideal.fptosi 32 (min (f32c 0x437F0000#32) (max (f32c 0x00000000#32)
    (Ideal.liftRound Int.floor (v + (((bits >>> 8).toInt : ℝ) : EReal) * f32c 0x33800000#32)))))

/-- The code at entry `d` of a row. -/
def codeRow (g c : Fin 128 → EReal) (s b : Fin 4 → EReal) (mom : EReal) (bits : Fin 128 → BitVec 32) (d : Fin 128) : BitVec 8 :=
  quant (vOf (wRow g c s b mom (kOf d)) (rOf d)) (bits d)

end Cert.Proof.Spec

end
-- ==== Proof.Group.lean ====
/-
  Hand-written, untrusted. The kernel body works on two groups of 512 rows. One vocabulary for both: each intermediate value
  as one term (the gradient sum, the state, the multiplier, the stored codes, the updated weights of each block, their least
  entry, range, scale and scaled entries, the codes), and each of them read at an index as the row formula of Spec.lean.
-/
module

public import proofs.«01_k».proof.Proof.Gen.KernelIdeal.Skeleton
public import proofs.«01_k».proof.Proof.Spec
public import Idealize.ShloMosaic.Lib.BitcastFour

@[expose] public section

set_option maxRecDepth 16384

noncomputable section

namespace Cert.Proof.Group

open Idealize.ShloMosaic Cert.KernelIdeal Cert.KernelIdeal.Gen Cert.Proof.Spec

section Terms
variable {F : FTy → Type} [FloatOps F]

/-- The counts of a group as a matrix: bag by row. -/
def LK (a b c d : Vec F S1x128x128 .i32) : FVec F S512x512 .bf16 :=
  have one (v : Vec F S1x128x128 .i32) : FVec F S512x128 .bf16 :=
    sitofp .bf16 (bitcast S512x128 8 (shapeCast S128x128 v shapeCasts_S1x128x128_S128x128) bitcasts_S128x128_w32_S512x128_w8)
  concatenate S512x512 1 [⟨S512x128, one a⟩, ⟨S512x128, one b⟩, ⟨S512x128, one c⟩, ⟨S512x128, one d⟩]
    concatenates_S512x128_S512x128_S512x128_S512x128_S512x512_d1

/-- The product of the three gradient parts and the counts. -/
def MM (p : Vec F S384x512 .bf16) (lk : FVec F S512x512 .bf16) : FVec F S384x512 .f32 :=
  matmul dot_S384x512_S512x512_S384x512_1_0_0_1_n_n none (shapeCast S384x512 p shapeCasts_S384x512_S384x512) lk
    (constant S384x512 .f32 0x00000000#32)

/-- The gradient sum: the three parts' products added. -/
def G (mm : FVec F S384x512 .f32) : FVec F S128x512 .f32 :=
  addf (addf (extractStridedSlice S128x512 ![0, 0] mm slices_S384x512_o0_0_S128x512)
    (extractStridedSlice S128x512 ![128, 0] mm slices_S384x512_o128_0_S128x512))
    (extractStridedSlice S128x512 ![256, 0] mm slices_S384x512_o256_0_S128x512)

/-- The new state. -/
def ST (mo : Vec F S1x512 .f32) (g : FVec F S128x512 .f32) : FVec F S1x512 .f32 :=
  addf mo (mulf (shapeCast S1x512 (multiReduction .add [0] S512 (mulf g g) 0x00000000#32 reduces_S128x512_S512 (.inl rfl) rfl)
    shapeCasts_S512_S1x512) (broadcast S1x512 (Scalar.ofBits .f32 0x3C000000#32)))

/-- The learning rate over the root of the state. -/
def MU (st : FVec F S1x512 .f32) : FVec F S1x512 .f32 :=
  divf (broadcast S1x512 (Scalar.ofBits .f32 0x3CA3D70A#32)) (addf (sqrt st) (broadcast S1x512 (Scalar.ofBits .f32 0x322BCC77#32)))

/-- One byte of each stored word, transposed. -/
def BY (k : BitVec 32) (w : Vec F S128x128 .i32) : FVec F S128x128 .f32 :=
  sitofp .f32 (andi (shrui (transpose S128x128 [1, 0] w transposes_S128x128_p1_0_S128x128) (broadcast S128x128 k))
    (broadcast S128x128 255#32))

/-- The stored codes. -/
def CO (w : Vec F S128x128 .i32) : FVec F S128x512 .f32 :=
  concatenate S128x512 1 [⟨S128x128, BY 0#32 w⟩, ⟨S128x128, BY 8#32 w⟩, ⟨S128x128, BY 16#32 w⟩, ⟨S128x128, BY 24#32 w⟩]
    concatenates_S128x128_S128x128_S128x128_S128x128_S128x512_d1

/-- The updated weights of a block, from the slices of the codes and of the gradient sum. -/
def WN (c g : FVec F S32x512 .f32) (mu s b : FVec F S1x512 .f32) : FVec F S32x512 .f32 :=
  subf (addf (mulf c (broadcastTo S32x512 s broadcasts_S1x512_S32x512)) (broadcastTo S32x512 b broadcasts_S1x512_S32x512))
    (mulf (broadcastTo S32x512 mu broadcasts_S1x512_S32x512) g)

/-- The four slices of 32 rows. -/
def SL0 (x : FVec F S128x512 .f32) : FVec F S32x512 .f32 := extractStridedSlice S32x512 ![0, 0] x slices_S128x512_o0_0_S32x512
@[inherit_doc SL0] def SL1 (x : FVec F S128x512 .f32) : FVec F S32x512 .f32 :=
  extractStridedSlice S32x512 ![32, 0] x slices_S128x512_o32_0_S32x512
@[inherit_doc SL0] def SL2 (x : FVec F S128x512 .f32) : FVec F S32x512 .f32 :=
  extractStridedSlice S32x512 ![64, 0] x slices_S128x512_o64_0_S32x512
@[inherit_doc SL0] def SL3 (x : FVec F S128x512 .f32) : FVec F S32x512 .f32 :=
  extractStridedSlice S32x512 ![96, 0] x slices_S128x512_o96_0_S32x512

/-- The least entry of each column of a block. -/
def MN (w : FVec F S32x512 .f32) : FVec F S1x512 .f32 :=
  shapeCast S1x512 (multiReduction .minimumf [0] S512 w 0x7F800000#32 reduces_S32x512_S512 (.inl rfl) rfl) shapeCasts_S512_S1x512

/-- The greatest entry of each column of a block. -/
def MX (w : FVec F S32x512 .f32) : FVec F S1x512 .f32 :=
  shapeCast S1x512 (multiReduction .maximumf [0] S512 w 0xFF800000#32 reduces_S32x512_S512 (.inl rfl) rfl) shapeCasts_S512_S1x512

/-- The range of each column of a block. -/
def RN (w : FVec F S32x512 .f32) : FVec F S1x512 .f32 := subf (MX w) (MN w)

/-- The new scale of each column of a block. -/
def SC (w : FVec F S32x512 .f32) : FVec F S1x512 .f32 := divf (RN w) (broadcast S1x512 (Scalar.ofBits .f32 0x437F0000#32))

/-- The scaled entries of a block. -/
def VV (w : FVec F S32x512 .f32) : FVec F S32x512 .f32 :=
  mulf (subf w (broadcastTo S32x512 (MN w) broadcasts_S1x512_S32x512))
    (broadcastTo S32x512 (divf (broadcast S1x512 (Scalar.ofBits .f32 0x437F0000#32))
      (addf (RN w) (broadcast S1x512 (Scalar.ofBits .f32 0x322BCC77#32)))) broadcasts_S1x512_S32x512)

/-- The four blocks joined. -/
def CAT (a b c d : FVec F S32x512 .f32) : FVec F S128x512 .f32 :=
  concatenate S128x512 0 [⟨S32x512, a⟩, ⟨S32x512, b⟩, ⟨S32x512, c⟩, ⟨S32x512, d⟩]
    concatenates_S32x512_S32x512_S32x512_S32x512_S128x512_d0

/-- The codes of 128 rows, from the slice of the scaled entries and the random words. -/
def QU (v : FVec F S128x128 .f32) (bits : Vec F S128x128 .i32) : IVec S128x128 8 :=
  trunci 8 (fptosi 32 (minimumf (broadcast S128x128 (Scalar.ofBits .f32 0x437F0000#32))
    (maximumf (broadcast S128x128 (Scalar.ofBits .f32 0x00000000#32))
      (floor (addf (transpose S128x128 [1, 0] v transposes_S128x128_p1_0_S128x128)
        (mulf (sitofp .f32 (shrui bits (broadcast S128x128 8#32))) (broadcast S128x128 (Scalar.ofBits .f32 0x33800000#32)))))))) natLt_8_32

/-- The four slices of 128 columns. -/
def TL0 (x : FVec F S128x512 .f32) : FVec F S128x128 .f32 := extractStridedSlice S128x128 ![0, 0] x slices_S128x512_o0_0_S128x128
@[inherit_doc TL0] def TL1 (x : FVec F S128x512 .f32) : FVec F S128x128 .f32 :=
  extractStridedSlice S128x128 ![0, 128] x slices_S128x512_o0_128_S128x128
@[inherit_doc TL0] def TL2 (x : FVec F S128x512 .f32) : FVec F S128x128 .f32 :=
  extractStridedSlice S128x128 ![0, 256] x slices_S128x512_o0_256_S128x128
@[inherit_doc TL0] def TL3 (x : FVec F S128x512 .f32) : FVec F S128x128 .f32 :=
  extractStridedSlice S128x128 ![0, 384] x slices_S128x512_o0_384_S128x128

end Terms

/-! ## Read at an index -/

/-- A word reinterpreted as four bytes: row `b` of a lane is byte `b % 4` of the word in row `b / 4`. -/
theorem bytes_apply (x : IVec S128x128 32) (b : Fin 512) (l : Fin 128) :
    bitcast S512x128 8 x bitcasts_S128x128_w32_S512x128_w8 (ix2 b l)
      = (x (ix2 ⟨b.val / 4, by omega⟩ l)).extractLsb' (8 * (b.val % 4)) 8 := by
  apply BitVec.eq_of_getLsbD_eq
  intro q hq
  rw [bitcast_getLsbD x _ _ q hq (by decide), BitVec.getLsbD_extractLsb']
  have hr : S512x128.row (ix2 b l) = b.val := rfl
  have e1 : (S512x128.row (ix2 b l) * 8 + q) / 32 = b.val / 4 := by rw [hr]; omega
  have e2 : (S512x128.row (ix2 b l) * 8 + q) % 32 = 8 * (b.val % 4) + q := by rw [hr]; omega
  rw [e2, decide_eq_true hq, Bool.true_and]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- The slab that holds column `j` of a group. -/
def pick {α : Type} (a b c d : α) (j : Fin 512) : α :=
  if j.val < 128 then a else if j.val < 256 then b else if j.val < 384 then c else d

/-- One slab's count of a bag and a row, as the real number it stands for. -/
theorem slab_apply (v : Vec Ideal S1x128x128 .i32) (q : Fin 512) (l : Fin 128) :
    FloatOps.sitofp (F := Ideal) .bf16 (bitcast S512x128 8 (shapeCast S128x128 v shapeCasts_S1x128x128_S128x128)
      bitcasts_S128x128_w32_S512x128_w8 (ix2 q l)) = sByte (v (ix3 0 ⟨q.val / 4, by omega⟩ l)) (q.val % 4) := by
  rw [bytes_apply]
  pointwise
  rfl

theorem LK_apply (a b c d : Vec Ideal S1x128x128 .i32) (q j : Fin 512) :
    LK (F := Ideal) a b c d (ix2 q j)
      = sByte (pick a b c d j (ix3 0 ⟨q.val / 4, by omega⟩ ⟨j.val % 128, by omega⟩)) (q.val % 4) := by
  unfold LK
  pointwise
  simp only [slab_apply]
  have hv : ∀ (v : Vec Ideal S1x128x128 .i32) (l : Fin 128), l.val = j.val % 128 →
      sByte (v (ix3 0 ⟨q.val / 4, by omega⟩ l)) (q.val % 4)
        = sByte (v (ix3 0 ⟨q.val / 4, by omega⟩ ⟨j.val % 128, by omega⟩)) (q.val % 4) := fun v l h => by
    rw [show l = ⟨j.val % 128, by omega⟩ from Fin.ext h]
  rcases (by omega : j.val < 128 ∨ (128 ≤ j.val ∧ j.val < 256) ∨ (256 ≤ j.val ∧ j.val < 384) ∨ 384 ≤ j.val) with h | h | h | h
  · rw [dif_pos h, show pick a b c d j = a from if_pos h]
    exact hv _ _ (by dsimp only; omega)
  · rw [dif_neg (by omega), dif_pos (by omega), show pick a b c d j = b from (if_neg (by omega)).trans (if_pos (by omega))]
    exact hv _ _ (by dsimp only; omega)
  · rw [dif_neg (by omega), dif_neg (by omega), dif_pos (by omega), show pick a b c d j = c from
      (if_neg (by omega)).trans ((if_neg (by omega)).trans (if_pos (by omega)))]
    exact hv _ _ (by dsimp only; omega)
  · rw [dif_neg (by omega), dif_neg (by omega), dif_neg (by omega), show pick a b c d j = d from
      (if_neg (by omega)).trans ((if_neg (by omega)).trans (if_neg (by omega)))]
    exact hv _ _ (by dsimp only; omega)

theorem MM_apply (p : Vec Ideal S384x512 .bf16) (lk : FVec Ideal S512x512 .bf16) (i : Fin 384) (j : Fin 512) :
    MM (F := Ideal) p lk (ix2 i j) = ∑ q : Fin 512, p (ix2 i q) * lk (ix2 q j) := by
  unfold MM
  pointwise

theorem G_apply (mm : FVec Ideal S384x512 .f32) (d : Fin 128) (j : Fin 512) :
    G (F := Ideal) mm (ix2 d j)
      = mm (ix2 ⟨d.val, by omega⟩ j) + mm (ix2 ⟨128 + d.val, by omega⟩ j) + mm (ix2 ⟨256 + d.val, by omega⟩ j) := by
  unfold G
  pointwise

theorem ST_apply (mo : Vec Ideal S1x512 .f32) (g : FVec Ideal S128x512 .f32) (z : Fin 1) (j : Fin 512) :
    ST (F := Ideal) mo g (ix2 z j) = stateRow (fun d => g (ix2 d j)) (mo (ix2 z j)) := by
  unfold ST stateRow
  pointwise

theorem MU_apply (st : FVec Ideal S1x512 .f32) (z : Fin 1) (j : Fin 512) :
    MU (F := Ideal) st (ix2 z j) = multRow (st (ix2 z j)) := by
  unfold MU multRow
  pointwise

theorem BY_apply (k : ℕ) (hk : k < 4) (w : Vec Ideal S128x128 .i32) (d l : Fin 128) :
    BY (F := Ideal) (BitVec.ofNat 32 (8 * k)) w (ix2 d l) = uByte (w (ix2 l d)) k := by
  unfold BY uByte
  pointwise
  have : k = 0 ∨ k = 1 ∨ k = 2 ∨ k = 3 := by omega
  rcases this with rfl | rfl | rfl | rfl <;> rfl

theorem CO_apply (w : Vec Ideal S128x128 .i32) (d : Fin 128) (j : Fin 512) :
    CO (F := Ideal) w (ix2 d j) = uByte (w (ix2 ⟨j.val % 128, by omega⟩ d)) (j.val / 128) := by
  unfold CO
  pointwise
  have hv : ∀ (l : Fin 128) (k : ℕ), l.val = j.val % 128 → k = j.val / 128 →
      uByte (w (ix2 l d)) k = uByte (w (ix2 ⟨j.val % 128, by omega⟩ d)) (j.val / 128) := fun l k h hk => by
    rw [show l = ⟨j.val % 128, by omega⟩ from Fin.ext h]
    exact congrArg (uByte _) hk
  rcases (by omega : j.val < 128 ∨ (128 ≤ j.val ∧ j.val < 256) ∨ (256 ≤ j.val ∧ j.val < 384) ∨ 384 ≤ j.val) with h | h | h | h
  · rw [dif_pos h]
    exact (BY_apply 0 (by decide) w _ _).trans (hv _ _ (by dsimp only; omega) (by omega))
  · rw [dif_neg (by omega), dif_pos (by omega)]
    exact (BY_apply 1 (by decide) w _ _).trans (hv _ _ (by dsimp only; omega) (by omega))
  · rw [dif_neg (by omega), dif_neg (by omega), dif_pos (by omega)]
    exact (BY_apply 2 (by decide) w _ _).trans (hv _ _ (by dsimp only; omega) (by omega))
  · rw [dif_neg (by omega), dif_neg (by omega), dif_neg (by omega)]
    exact (BY_apply 3 (by decide) w _ _).trans (hv _ _ (by dsimp only; omega) (by omega))

theorem WN_apply (c g : FVec Ideal S32x512 .f32) (mu s b : FVec Ideal S1x512 .f32) (r : Fin 32) (j : Fin 512) :
    WN (F := Ideal) c g mu s b (ix2 r j)
      = wAt (c (ix2 r j)) (s (ix2 0 j)) (b (ix2 0 j)) (mu (ix2 0 j)) (g (ix2 r j)) := by
  unfold WN wAt
  pointwise

theorem SL0_apply (x : FVec Ideal S128x512 .f32) (r : Fin 32) (j : Fin 512) : SL0 (F := Ideal) x (ix2 r j) = x (ix2 (at32 0 r) j) := by
  unfold SL0
  pointwise
  exact congrArg (fun a => x (ix2 a j)) (Fin.ext (by show r.val = 32 * 0 + r.val; omega))
theorem SL1_apply (x : FVec Ideal S128x512 .f32) (r : Fin 32) (j : Fin 512) : SL1 (F := Ideal) x (ix2 r j) = x (ix2 (at32 1 r) j) := by
  unfold SL1
  pointwise
  exact congrArg (fun a => x (ix2 a j)) (Fin.ext (by show 32 + r.val = 32 * 1 + r.val; omega))

theorem SL2_apply (x : FVec Ideal S128x512 .f32) (r : Fin 32) (j : Fin 512) : SL2 (F := Ideal) x (ix2 r j) = x (ix2 (at32 2 r) j) := by
  unfold SL2
  pointwise
  exact congrArg (fun a => x (ix2 a j)) (Fin.ext (by show 64 + r.val = 32 * 2 + r.val; omega))

theorem SL3_apply (x : FVec Ideal S128x512 .f32) (r : Fin 32) (j : Fin 512) : SL3 (F := Ideal) x (ix2 r j) = x (ix2 (at32 3 r) j) := by
  unfold SL3
  pointwise
  exact congrArg (fun a => x (ix2 a j)) (Fin.ext (by show 96 + r.val = 32 * 3 + r.val; omega))

theorem MN_apply (w : FVec Ideal S32x512 .f32) (z : Fin 1) (j : Fin 512) : MN (F := Ideal) w (ix2 z j) = mnOf (fun r => w (ix2 r j)) := by
  unfold MN mnOf
  pointwise

theorem MX_apply (w : FVec Ideal S32x512 .f32) (z : Fin 1) (j : Fin 512) : MX (F := Ideal) w (ix2 z j) = mxOf (fun r => w (ix2 r j)) := by
  unfold MX mxOf
  pointwise

theorem RN_apply (w : FVec Ideal S32x512 .f32) (z : Fin 1) (j : Fin 512) : RN (F := Ideal) w (ix2 z j) = rngOf (fun r => w (ix2 r j)) := by
  unfold RN rngOf
  rw [← MN_apply w z j, ← MX_apply w z j]
  rfl

theorem SC_apply (w : FVec Ideal S32x512 .f32) (z : Fin 1) (j : Fin 512) : SC (F := Ideal) w (ix2 z j) = scaleOf (fun r => w (ix2 r j)) := by
  unfold SC scaleOf
  rw [← RN_apply w z j]
  rfl

theorem VV_apply (w : FVec Ideal S32x512 .f32) (r : Fin 32) (j : Fin 512) : VV (F := Ideal) w (ix2 r j) = vOf (fun r => w (ix2 r j)) r := by
  unfold VV vOf
  rw [← RN_apply w 0 j, ← MN_apply w 0 j]
  generalize RN w = rn
  generalize MN w = mn
  pointwise

theorem CAT_apply (w : Fin 4 → FVec Ideal S32x512 .f32) (d : Fin 128) (j : Fin 512) :
    CAT (F := Ideal) (w 0) (w 1) (w 2) (w 3) (ix2 d j) = w (kOf d) (ix2 (rOf d) j) := by
  unfold CAT
  pointwise
  have h : ∀ (k : Fin 4) (r : Fin 32), d.val = 32 * k.val + r.val → w k (ix2 r j) = w (kOf d) (ix2 (rOf d) j) := by
    intro k r h
    have hk : k = kOf d := Fin.ext (by show k.val = d.val / 32; omega)
    have hr : r = rOf d := Fin.ext (by show r.val = d.val % 32; omega)
    rw [hk, hr]
  split_ifs <;> apply h <;> dsimp only <;> omega

theorem QU_apply (v : FVec Ideal S128x128 .f32) (bits : Vec Ideal S128x128 .i32) (l d : Fin 128) :
    QU (F := Ideal) v bits (ix2 l d) = quant (v (ix2 d l)) (bits (ix2 l d)) := by
  unfold QU quant
  pointwise
  rfl

theorem TL0_apply (x : FVec Ideal S128x512 .f32) (d l : Fin 128) :
    TL0 (F := Ideal) x (ix2 d l) = x (ix2 d ⟨l.val, by omega⟩) := by
  unfold TL0
  pointwise

theorem TL2_apply (x : FVec Ideal S128x512 .f32) (d l : Fin 128) :
    TL2 (F := Ideal) x (ix2 d l) = x (ix2 d ⟨256 + l.val, by omega⟩) := by
  unfold TL2
  pointwise

theorem TL3_apply (x : FVec Ideal S128x512 .f32) (d l : Fin 128) :
    TL3 (F := Ideal) x (ix2 d l) = x (ix2 d ⟨384 + l.val, by omega⟩) := by
  unfold TL3
  pointwise

theorem TL1_apply (x : FVec Ideal S128x512 .f32) (d l : Fin 128) :
    TL1 (F := Ideal) x (ix2 d l) = x (ix2 d ⟨128 + l.val, by omega⟩) := by
  unfold TL1
  pointwise

end Cert.Proof.Group

end
-- ==== Proof.Pay.lean ====
/-
  Hand-written, untrusted. Each stored value of the kernel body, and each value that the stored ones share, as a term of
  Group.lean's vocabulary over the blocks of the input windows.
-/
module

public import proofs.«01_k».proof.Proof.Gen.KernelIdeal.Frame
public import proofs.«01_k».proof.Proof.Group

@[expose] public section

set_option maxRecDepth 16384

noncomputable section

namespace Cert.Proof.Pay

open Idealize.ShloMosaic Cert.KernelIdeal Cert.KernelIdeal.Gen Cert.Proof.Group

variable {F : FTy → Type} [FloatOps F]

section Pieces
variable (a b c d : Vec F S1x128x128 .i32) (p : Vec F S384x512 .bf16) (w : Vec F S128x128 .i32)
  (g co v : FVec F S128x512 .f32) (mu st s t mo : FVec F S1x512 .f32) (e f h i : FVec F S32x512 .f32)

theorem q2 : k0_pay2 a b c d p = G (MM p (LK a b c d)) := rfl
theorem q36 : k0_pay36 a b c d p = G (MM p (LK a b c d)) := rfl
theorem q3 : k0_pay3 a b c d p mo = ST mo (G (MM p (LK a b c d))) := rfl
theorem q38 : k0_pay38 mo (k0_pay37 a b c d p) = ST mo (G (MM p (LK a b c d))) := rfl
theorem q5 : k0_pay5 (k0_pay4 a b c d p mo) = MU (ST mo (G (MM p (LK a b c d)))) := rfl
theorem q39 : k0_pay39 mo (k0_pay37 a b c d p) = MU (ST mo (G (MM p (LK a b c d)))) := rfl
theorem q6 : k0_pay6 w = CO w := rfl
theorem q40 : k0_pay40 w = CO w := rfl
theorem q7 : k0_pay7 g st w s t = WN (SL0 (CO w)) (SL0 g) (k0_pay5 st) s t := rfl
theorem q8 : k0_pay8 g st w s t = MN (WN (SL0 (CO w)) (SL0 g) (k0_pay5 st) s t) := rfl
theorem q9 : k0_pay9 g st w s t = RN (WN (SL0 (CO w)) (SL0 g) (k0_pay5 st) s t) := rfl
theorem q11 : k0_pay11 (RN e) k0_pay10 = SC e := rfl
theorem q12 : k0_pay12 e (MN e) (RN e) = VV e := rfl
theorem q14 : k0_pay14 g mu co s t = MN (WN (SL1 co) (SL1 g) mu s t) := rfl
theorem q16 : k0_pay16 g mu co s t = SC (WN (SL1 co) (SL1 g) mu s t) := rfl
theorem q19 : k0_pay19 (k0_pay17 g mu co s t) (k0_pay18 g mu co s t) = VV (WN (SL1 co) (SL1 g) mu s t) := rfl
theorem q21 : k0_pay21 g mu co s t = MN (WN (SL2 co) (SL2 g) mu s t) := rfl
theorem q23 : k0_pay23 g mu co s t = SC (WN (SL2 co) (SL2 g) mu s t) := rfl
theorem q24 : k0_pay24 g mu co s t = VV (WN (SL2 co) (SL2 g) mu s t) := rfl
theorem q25 : k0_pay25 g mu co s t = WN (SL3 co) (SL3 g) mu s t := rfl
theorem q26 : k0_pay26 e = MN e := rfl
theorem q28 : k0_pay28 e = SC e := rfl
theorem q29 : k0_pay29 e f h i = CAT e f h (VV i) := rfl
theorem q30 : k0_pay30 e f h i w = QU (TL0 (CAT e f h (VV i))) w := rfl
theorem q32 : k0_pay32 v w k0_pay31 = QU (TL1 v) w := rfl
theorem q33 : k0_pay33 v w = QU (TL2 v) w := rfl
theorem q35 : k0_pay35 (k0_pay34 v w) = QU (TL3 v) w := rfl
theorem q44 : k0_pay44 mu (k0_pay41 w s t) (k0_pay42 g) = MN (WN (SL0 (CO w)) (SL0 g) mu s t) := rfl
theorem q46 : k0_pay46 mu (k0_pay41 w s t) (k0_pay42 g) = SC (WN (SL0 (CO w)) (SL0 g) mu s t) := rfl
theorem q47 : k0_pay47 mu (k0_pay41 w s t) (k0_pay42 g) = VV (WN (SL0 (CO w)) (SL0 g) mu s t) := rfl
theorem q49 : k0_pay49 g mu co s t = MN (WN (SL1 co) (SL1 g) mu s t) := rfl
theorem q51 : k0_pay51 g mu co s t = SC (WN (SL1 co) (SL1 g) mu s t) := rfl
theorem q52 : k0_pay52 (k0_pay48 g mu co s t) (k0_pay49 g mu co s t) (k0_pay50 g mu co s t) = VV (WN (SL1 co) (SL1 g) mu s t) := rfl
theorem q54 : k0_pay54 g mu co s t = MN (WN (SL2 co) (SL2 g) mu s t) := rfl
theorem q56 : k0_pay56 g mu co s t = SC (WN (SL2 co) (SL2 g) mu s t) := rfl
theorem q57 : k0_pay57 g mu co s t = VV (WN (SL2 co) (SL2 g) mu s t) := rfl
theorem q60 : k0_pay60 g mu (k0_pay58 co) s t = MN (WN (SL3 co) (SL3 g) mu s t) := rfl
theorem q62 : k0_pay62 g mu (k0_pay58 co) s t = SC (WN (SL3 co) (SL3 g) mu s t) := rfl
theorem q63 : k0_pay63 g mu e f h (k0_pay58 co) s t = CAT e f h (VV (WN (SL3 co) (SL3 g) mu s t)) := rfl
theorem q64 : k0_pay66 (k0_pay64 g mu e f h (k0_pay58 co) s t w) k0_pay65 = QU (TL0 (CAT e f h (VV (WN (SL3 co) (SL3 g) mu s t)))) w := rfl
theorem q67 : k0_pay67 v w = QU (TL1 v) w := rfl
theorem q68 : k0_pay68 v w = QU (TL2 v) w := rfl
theorem q1 : k0_pay1 v w = QU (TL3 v) w := rfl

end Pieces

section Block
variable (x0 : Vec F S8x128x128 .i32) (x1 : Vec F S384x512 .bf16) (x2 : Vec F S256x128 .i32) (x3 x4 : Vec F S4x1024 .f32)
  (x5 : Vec F S1x1024 .f32) (x6 : Vec F S1024x128 .i32)

/-- Group 0: the gradient sums, state, multiplier, stored codes, updated weights and joined scaled entries. -/
def g0 : FVec F S128x512 .f32 := G (MM (View.ld x1 r0_4) (LK (View.ld x0 r0_0) (View.ld x0 r0_1) (View.ld x0 r0_2) (View.ld x0 r0_3)))
@[inherit_doc g0] def st0 : FVec F S1x512 .f32 := ST (View.ld x5 r0_5) (g0 x0 x1)
@[inherit_doc g0] def mu0 : FVec F S1x512 .f32 := MU (st0 x0 x1 x5)
@[inherit_doc g0] def co0 : FVec F S128x512 .f32 := CO (View.ld x2 r0_6)
@[inherit_doc g0] def w00 : FVec F S32x512 .f32 := WN (SL0 (co0 x2)) (SL0 (g0 x0 x1)) (mu0 x0 x1 x5) (View.ld x3 r0_7) (View.ld x4 r0_7)
@[inherit_doc g0] def w01 : FVec F S32x512 .f32 := WN (SL1 (co0 x2)) (SL1 (g0 x0 x1)) (mu0 x0 x1 x5) (View.ld x3 r0_8) (View.ld x4 r0_8)
@[inherit_doc g0] def w02 : FVec F S32x512 .f32 := WN (SL2 (co0 x2)) (SL2 (g0 x0 x1)) (mu0 x0 x1 x5) (View.ld x3 r0_9) (View.ld x4 r0_9)
@[inherit_doc g0] def w03 : FVec F S32x512 .f32 := WN (SL3 (co0 x2)) (SL3 (g0 x0 x1)) (mu0 x0 x1 x5) (View.ld x3 r0_10) (View.ld x4 r0_10)
@[inherit_doc g0] def v0 : FVec F S128x512 .f32 := CAT (VV (w00 x0 x1 x2 x3 x4 x5)) (VV (w01 x0 x1 x2 x3 x4 x5)) (VV (w02 x0 x1 x2 x3 x4 x5)) (VV (w03 x0 x1 x2 x3 x4 x5))
/-- Group 1: the gradient sums, state, multiplier, stored codes, updated weights and joined scaled entries. -/
def g1 : FVec F S128x512 .f32 := G (MM (View.ld x1 r0_4) (LK (View.ld x0 r0_15) (View.ld x0 r0_16) (View.ld x0 r0_17) (View.ld x0 r0_18)))
@[inherit_doc g1] def st1 : FVec F S1x512 .f32 := ST (View.ld x5 r0_19) (g1 x0 x1)
@[inherit_doc g1] def mu1 : FVec F S1x512 .f32 := MU (st1 x0 x1 x5)
@[inherit_doc g1] def co1 : FVec F S128x512 .f32 := CO (View.ld x2 r0_20)
@[inherit_doc g1] def w10 : FVec F S32x512 .f32 := WN (SL0 (co1 x2)) (SL0 (g1 x0 x1)) (mu1 x0 x1 x5) (View.ld x3 r0_21) (View.ld x4 r0_21)
@[inherit_doc g1] def w11 : FVec F S32x512 .f32 := WN (SL1 (co1 x2)) (SL1 (g1 x0 x1)) (mu1 x0 x1 x5) (View.ld x3 r0_22) (View.ld x4 r0_22)
@[inherit_doc g1] def w12 : FVec F S32x512 .f32 := WN (SL2 (co1 x2)) (SL2 (g1 x0 x1)) (mu1 x0 x1 x5) (View.ld x3 r0_23) (View.ld x4 r0_23)
@[inherit_doc g1] def w13 : FVec F S32x512 .f32 := WN (SL3 (co1 x2)) (SL3 (g1 x0 x1)) (mu1 x0 x1 x5) (View.ld x3 r0_24) (View.ld x4 r0_24)
@[inherit_doc g1] def v1 : FVec F S128x512 .f32 := CAT (VV (w10 x0 x1 x2 x3 x4 x5)) (VV (w11 x0 x1 x2 x3 x4 x5)) (VV (w12 x0 x1 x2 x3 x4 x5)) (VV (w13 x0 x1 x2 x3 x4 x5))

theorem p69 : k0_pay69 x0 x1 x2 x3 x4 x5 x6 = g0 x0 x1 := q2 ..
theorem p71 : k0_pay71 x0 x1 x2 x3 x4 x5 x6 = mu0 x0 x1 x5 := q5 ..
theorem p72 : k0_pay72 x0 x1 x2 x3 x4 x5 x6 = co0 x2 := q6 ..
theorem p73 : k0_pay73 x0 x1 x2 x3 x4 x5 x6 = MN (w00 x0 x1 x2 x3 x4 x5) := by
  rw [k0_pay73, q8, show k0_pay5 (k0_pay70 x0 x1 x2 x3 x4 x5 x6) = mu0 x0 x1 x5 from q5 .., p69]
  rfl
theorem p74 : k0_pay74 x0 x1 x2 x3 x4 x5 x6 = RN (w00 x0 x1 x2 x3 x4 x5) := by
  rw [k0_pay74, q9, show k0_pay5 (k0_pay70 x0 x1 x2 x3 x4 x5 x6) = mu0 x0 x1 x5 from q5 .., p69]
  rfl
theorem p75 : k0_pay75 x0 x1 x2 x3 x4 x5 x6 = VV (w00 x0 x1 x2 x3 x4 x5) := by
  rw [k0_pay75, p73, p74, q7, show k0_pay5 (k0_pay70 x0 x1 x2 x3 x4 x5 x6) = mu0 x0 x1 x5 from q5 .., p69]
  exact q12 _
theorem p76 : k0_pay76 x0 x1 x2 x3 x4 x5 x6 = VV (w01 x0 x1 x2 x3 x4 x5) := by
  rw [k0_pay76, p69, p71, p72, q19]
  rfl
theorem p77 : k0_pay77 x0 x1 x2 x3 x4 x5 x6 = VV (w02 x0 x1 x2 x3 x4 x5) := by
  rw [k0_pay77, p69, p71, p72, q24]
  rfl
theorem p78 : k0_pay78 x0 x1 x2 x3 x4 x5 x6 = w03 x0 x1 x2 x3 x4 x5 := by
  rw [k0_pay78, p69, p71, p72, q25]
  rfl
theorem p79 : k0_pay79 x0 x1 x2 x3 x4 x5 x6 = v0 x0 x1 x2 x3 x4 x5 := by
  rw [k0_pay79, p75, p76, p77, p78, q29]
  rfl
theorem p80 : k0_pay80 x0 x1 x2 x3 x4 x5 x6 = g1 x0 x1 := q36 ..
theorem p82 : k0_pay82 x0 x1 x2 x3 x4 x5 x6 = mu1 x0 x1 x5 := q39 ..
theorem p83 : k0_pay83 x0 x1 x2 x3 x4 x5 x6 = co1 x2 := q40 ..
theorem p86 : k0_pay86 x0 x1 x2 x3 x4 x5 x6 = VV (w10 x0 x1 x2 x3 x4 x5) := by
  rw [k0_pay86, k0_pay84, k0_pay85, p80, p82, q47]
  rfl
theorem p87 : k0_pay87 x0 x1 x2 x3 x4 x5 x6 = MN (w11 x0 x1 x2 x3 x4 x5) := by
  rw [k0_pay87, p80, p82, p83, q49]
  rfl
theorem p88 : k0_pay88 x0 x1 x2 x3 x4 x5 x6 = VV (w11 x0 x1 x2 x3 x4 x5) := by
  rw [k0_pay88, k0_pay87, p80, p82, p83, q52]
  rfl
theorem p89 : k0_pay89 x0 x1 x2 x3 x4 x5 x6 = VV (w12 x0 x1 x2 x3 x4 x5) := by
  rw [k0_pay89, p80, p82, p83, q57]
  rfl
theorem p91 : k0_pay91 x0 x1 x2 x3 x4 x5 x6 = v1 x0 x1 x2 x3 x4 x5 := by
  rw [k0_pay91, k0_pay90, p80, p82, p83, p86, p88, p89, q63]
  rfl

theorem out7_eq : out0_7 x0 x1 x2 x3 x4 x5 x6 = View.canon [⟨r0_28, QU (TL3 (v1 x0 x1 x2 x3 x4 x5)) (View.ld x6 r0_28)⟩,
    ⟨r0_27, QU (TL2 (v1 x0 x1 x2 x3 x4 x5)) (View.ld x6 r0_27)⟩,
    ⟨r0_26, QU (TL1 (v1 x0 x1 x2 x3 x4 x5)) (View.ld x6 r0_26)⟩,
    ⟨r0_25, QU (TL0 (v1 x0 x1 x2 x3 x4 x5)) (View.ld x6 r0_25)⟩,
    ⟨r0_14, QU (TL3 (v0 x0 x1 x2 x3 x4 x5)) (View.ld x6 r0_14)⟩,
    ⟨r0_13, QU (TL2 (v0 x0 x1 x2 x3 x4 x5)) (View.ld x6 r0_13)⟩,
    ⟨r0_12, QU (TL1 (v0 x0 x1 x2 x3 x4 x5)) (View.ld x6 r0_12)⟩,
    ⟨r0_11, QU (TL0 (v0 x0 x1 x2 x3 x4 x5)) (View.ld x6 r0_11)⟩] := by
  rw [out0_7, k0_pay90, p91, p80, p82, p83, p86, p88, p89, p79, p75, p76, p77, p78, q1, q68, q67, q64, q35, q33, q32, q30]
  rfl

theorem out8_eq : out0_8 x0 x1 x2 x3 x4 x5 x6 = View.canon [⟨r0_24, SC (w13 x0 x1 x2 x3 x4 x5)⟩, ⟨r0_23, SC (w12 x0 x1 x2 x3 x4 x5)⟩,
    ⟨r0_22, SC (w11 x0 x1 x2 x3 x4 x5)⟩, ⟨r0_21, SC (w10 x0 x1 x2 x3 x4 x5)⟩, ⟨r0_10, SC (w03 x0 x1 x2 x3 x4 x5)⟩,
    ⟨r0_9, SC (w02 x0 x1 x2 x3 x4 x5)⟩, ⟨r0_8, SC (w01 x0 x1 x2 x3 x4 x5)⟩, ⟨r0_7, SC (w00 x0 x1 x2 x3 x4 x5)⟩] := by
  rw [out0_8, k0_pay90, k0_pay84, k0_pay85, p80, p82, p83, p78, p74, p69, p71, p72, q62, q56, q51, q46, q28, q23, q16, q11]
  rfl

theorem out9_eq : out0_9 x0 x1 x2 x3 x4 x5 x6 = View.canon [⟨r0_24, MN (w13 x0 x1 x2 x3 x4 x5)⟩, ⟨r0_23, MN (w12 x0 x1 x2 x3 x4 x5)⟩,
    ⟨r0_22, MN (w11 x0 x1 x2 x3 x4 x5)⟩, ⟨r0_21, MN (w10 x0 x1 x2 x3 x4 x5)⟩, ⟨r0_10, MN (w03 x0 x1 x2 x3 x4 x5)⟩,
    ⟨r0_9, MN (w02 x0 x1 x2 x3 x4 x5)⟩, ⟨r0_8, MN (w01 x0 x1 x2 x3 x4 x5)⟩, ⟨r0_7, MN (w00 x0 x1 x2 x3 x4 x5)⟩] := by
  rw [out0_9, p87, k0_pay90, k0_pay84, k0_pay85, p80, p82, p83, p78, p73, p69, p71, p72, q60, q54, q44, q26, q21, q14]
  rfl

theorem out10_eq : out0_10 x0 x1 x2 x3 x4 x5 x6 = View.canon [⟨r0_19, st1 x0 x1 x5⟩, ⟨r0_5, st0 x0 x1 x5⟩] := by
  rw [out0_10, k0_pay81, q38, q3]
  rfl

end Block

end Cert.Proof.Pay

end
-- ==== Proof.Block.lean ====
/-
  Hand-written, untrusted. What one grid point leaves in the four output blocks, read at an index: each is the row formula of
  Spec.lean at the block row's gradient sums, codes, scales, biases, state and random words.
-/
module

public import proofs.«01_k».proof.Proof.Pay
public import Idealize.ShloMosaic.Lib.Pipeline.ValueKit.Tiles

@[expose] public section

set_option maxRecDepth 16384

noncomputable section

namespace Cert.Proof.Block

open Idealize.ShloMosaic Cert.KernelIdeal Cert.KernelIdeal.Gen Cert.Proof.Spec Cert.Proof.Group Cert.Proof.Pay

variable (x0 : Vec Ideal S8x128x128 .i32) (x1 : Vec Ideal S384x512 .bf16) (x2 : Vec Ideal S256x128 .i32)
  (x3 x4 : Vec Ideal S4x1024 .f32) (x5 : Vec Ideal S1x1024 .f32) (x6 : Vec Ideal S1024x128 .i32)

/-- How often block row `ρ` occurs in bag `b`. -/
def lookB (ρ : Fin 1024) (b : Fin 512) : EReal :=
  sByte (x0 (ix3 ⟨ρ.val / 128, by omega⟩ ⟨b.val / 4, by omega⟩ ⟨ρ.val % 128, by omega⟩)) (b.val % 4)

/-- The gradient sum of block row `ρ`, from the three parts of the gradient. -/
def gB (ρ : Fin 1024) (d : Fin 128) : EReal :=
  (∑ b : Fin 512, x1 (ix2 ⟨d.val, by omega⟩ b) * lookB x0 ρ b) + (∑ b : Fin 512, x1 (ix2 ⟨128 + d.val, by omega⟩ b) * lookB x0 ρ b)
    + ∑ b : Fin 512, x1 (ix2 ⟨256 + d.val, by omega⟩ b) * lookB x0 ρ b

/-- The stored code of block row `ρ`. -/
def codeB (ρ : Fin 1024) (d : Fin 128) : EReal :=
  uByte (x2 (ix2 ⟨128 * (ρ.val / 512) + ρ.val % 128, by omega⟩ d)) (ρ.val / 128 % 4)

/-- The state of block row `ρ`. -/
def stB (ρ : Fin 1024) : EReal := stateRow (gB x0 x1 ρ) (x5 (ix2 0 ρ))

/-- The updated weights of block row `ρ`. -/
def wB (ρ : Fin 1024) : Fin 4 → Fin 32 → EReal :=
  wRow (gB x0 x1 ρ) (codeB x2 ρ) (fun k => x3 (ix2 k ρ)) (fun k => x4 (ix2 k ρ)) (x5 (ix2 0 ρ))

theorem ld_row (x : Vec Ideal S4x1024 .f32) (k : Fin 4) (n o : ℕ) (hk : k.val = n) (inb) (j : Fin 512) (ρ : Fin 1024) (h : ρ.val = o + j.val) :
    View.ld x (Rect.unit (s := S4x1024) ![n, o] S1x512.size inb) (ix2 (0 : Fin 1) j) = x (ix2 k ρ) :=
  congrArg x (funext fun a => match a with
    | ⟨0, _⟩ => Fin.ext ((Rect.idx_unit_val _ _ inb _ _).trans hk.symm)
    | ⟨1, _⟩ => Fin.ext ((Rect.idx_unit_val _ _ inb _ _).trans h.symm))

theorem ld_mom (o : ℕ) (inb) (j : Fin 512) (ρ : Fin 1024) (h : ρ.val = o + j.val) :
    View.ld x5 (Rect.unit (s := S1x1024) ![0, o] S1x512.size inb) (ix2 (0 : Fin 1) j) = x5 (ix2 0 ρ) :=
  congrArg x5 (funext fun a => match a with
    | ⟨0, _⟩ => Fin.ext ((Rect.idx_unit_val _ _ inb _ _).trans (Nat.add_zero _))
    | ⟨1, _⟩ => Fin.ext ((Rect.idx_unit_val _ _ inb _ _).trans h.symm))

theorem ld_words (o : ℕ) (inb) (l d : Fin 128) (q : Fin 256) (h : q.val = o + l.val) :
    View.ld x2 (Rect.unit (s := S256x128) ![o, 0] S128x128.size inb) (ix2 l d) = x2 (ix2 q d) :=
  congrArg x2 (funext fun a => match a with
    | ⟨0, _⟩ => Fin.ext ((Rect.idx_unit_val _ _ inb _ _).trans h.symm)
    | ⟨1, _⟩ => Fin.ext ((Rect.idx_unit_val _ _ inb _ _).trans (Nat.zero_add _)))

theorem ld_bits (o : ℕ) (inb) (l d : Fin 128) (ρ : Fin 1024) (h : ρ.val = o + l.val) :
    View.ld x6 (Rect.unit (s := S1024x128) ![o, 0] S128x128.size inb) (ix2 l d) = x6 (ix2 ρ d) :=
  congrArg x6 (funext fun a => match a with
    | ⟨0, _⟩ => Fin.ext ((Rect.idx_unit_val _ _ inb _ _).trans h.symm)
    | ⟨1, _⟩ => Fin.ext ((Rect.idx_unit_val _ _ inb _ _).trans (Nat.zero_add _)))

theorem ld_slab (k : Fin 8) (inb) (q l : Fin 128) :
    View.ld x0 (Rect.unit (s := S8x128x128) ![k.val, 0, 0] S1x128x128.size inb) (ix3 (0 : Fin 1) q l) = x0 (ix3 k q l) :=
  congrArg x0 (funext fun a => match a with
    | ⟨0, _⟩ => Fin.ext ((Rect.idx_unit_val _ _ inb _ _).trans (Nat.add_zero _))
    | ⟨1, _⟩ => Fin.ext ((Rect.idx_unit_val _ _ inb _ _).trans (Nat.zero_add _))
    | ⟨2, _⟩ => Fin.ext ((Rect.idx_unit_val _ _ inb _ _).trans (Nat.zero_add _)))

theorem ld_parts : View.ld x1 r0_4 = x1 :=
  View.ld_unit_zero (funext fun a => by match a with | ⟨0, _⟩ => rfl | ⟨1, _⟩ => rfl) _ x1

/-- The gradient sum from four slabs and the three parts, at a row and a column. -/
theorem grad_apply (a b c d : Vec Ideal S1x128x128 .i32) (ρ : Fin 1024) (j : Fin 512)
    (hρ : ∀ q l : Fin 128, l.val = j.val % 128 → pick a b c d j (ix3 0 q l) = x0 (ix3 ⟨ρ.val / 128, by omega⟩ q ⟨ρ.val % 128, by omega⟩))
    (e : Fin 128) : G (MM (View.ld x1 r0_4) (LK a b c d)) (ix2 e j) = gB x0 x1 ρ e := by
  rw [ld_parts, G_apply, MM_apply, MM_apply, MM_apply]
  have h : ∀ q : Fin 512, LK (F := Ideal) a b c d (ix2 q j) = lookB x0 ρ q := fun q => by
    rw [LK_apply, hρ _ _ rfl]; rfl
  simp only [h]
  rfl

theorem g0_apply (ρ : Fin 1024) (j : Fin 512) (h : ρ.val = 0 + j.val) (e : Fin 128) :
    g0 x0 x1 (ix2 e j) = gB x0 x1 ρ e := by
  refine grad_apply x0 x1 _ _ _ _ ρ j (fun q l hl => ?_) e
  have hk : ∀ k : Fin 8, k.val = ρ.val / 128 → x0 (ix3 k q l) = x0 (ix3 ⟨ρ.val / 128, by omega⟩ q ⟨ρ.val % 128, by omega⟩) :=
    fun k hk => congrArg₂ (fun a b => x0 (ix3 a q b)) (Fin.ext hk) (Fin.ext (by show l.val = ρ.val % 128; omega))
  rcases (by omega : j.val < 128 ∨ (128 ≤ j.val ∧ j.val < 256) ∨ (256 ≤ j.val ∧ j.val < 384) ∨ 384 ≤ j.val) with c | c | c | c
  · rw [show ∀ a b c d : Vec Ideal S1x128x128 .i32, pick a b c d j = a from fun _ _ _ _ => if_pos c]
    exact (ld_slab x0 0 _ q l).trans (hk _ (by show 0 = _; omega))
  · rw [show ∀ a b c d : Vec Ideal S1x128x128 .i32, pick a b c d j = b from fun _ _ _ _ => (if_neg (by omega)).trans (if_pos (by omega))]
    exact (ld_slab x0 1 _ q l).trans (hk _ (by show 1 = _; omega))
  · rw [show ∀ a b c d : Vec Ideal S1x128x128 .i32, pick a b c d j = c from
      fun _ _ _ _ => (if_neg (by omega)).trans ((if_neg (by omega)).trans (if_pos (by omega)))]
    exact (ld_slab x0 2 _ q l).trans (hk _ (by show 2 = _; omega))
  · rw [show ∀ a b c d : Vec Ideal S1x128x128 .i32, pick a b c d j = d from
      fun _ _ _ _ => (if_neg (by omega)).trans ((if_neg (by omega)).trans (if_neg (by omega)))]
    exact (ld_slab x0 3 _ q l).trans (hk _ (by show 3 = _; omega))

theorem st0_apply (ρ : Fin 1024) (j : Fin 512) (h : ρ.val = 0 + j.val) : st0 x0 x1 x5 (ix2 0 j) = stB x0 x1 x5 ρ := by
  rw [st0, ST_apply, ld_mom x5 0 _ j ρ h]
  simp only [g0_apply x0 x1 ρ j h]
  rfl

theorem co0_apply (ρ : Fin 1024) (j : Fin 512) (h : ρ.val = 0 + j.val) (e : Fin 128) :
    co0 x2 (ix2 e j) = codeB x2 ρ e := by
  rw [co0, CO_apply, ld_words x2 0 _ _ e ⟨128 * (ρ.val / 512) + ρ.val % 128, by omega⟩ (by dsimp only; omega)]
  exact congrArg (uByte _) (by omega)

theorem mu0_apply (ρ : Fin 1024) (j : Fin 512) (h : ρ.val = 0 + j.val) :
    mu0 x0 x1 x5 (ix2 0 j) = multRow (stB x0 x1 x5 ρ) := by
  rw [mu0, MU_apply, st0_apply x0 x1 x5 ρ j h]

theorem w00_apply (ρ : Fin 1024) (j : Fin 512) (h : ρ.val = 0 + j.val) :
    (fun r => w00 x0 x1 x2 x3 x4 x5 (ix2 r j)) = wB x0 x1 x2 x3 x4 x5 ρ 0 := by
  funext r
  rw [w00, WN_apply, SL0_apply, SL0_apply, co0_apply x2 ρ j h, g0_apply x0 x1 ρ j h, mu0_apply x0 x1 x5 ρ j h,
    ld_row x3 0 0 0 rfl _ j ρ h, ld_row x4 0 0 0 rfl _ j ρ h]
  rfl

theorem w01_apply (ρ : Fin 1024) (j : Fin 512) (h : ρ.val = 0 + j.val) :
    (fun r => w01 x0 x1 x2 x3 x4 x5 (ix2 r j)) = wB x0 x1 x2 x3 x4 x5 ρ 1 := by
  funext r
  rw [w01, WN_apply, SL1_apply, SL1_apply, co0_apply x2 ρ j h, g0_apply x0 x1 ρ j h, mu0_apply x0 x1 x5 ρ j h,
    ld_row x3 1 1 0 rfl _ j ρ h, ld_row x4 1 1 0 rfl _ j ρ h]
  rfl

theorem w02_apply (ρ : Fin 1024) (j : Fin 512) (h : ρ.val = 0 + j.val) :
    (fun r => w02 x0 x1 x2 x3 x4 x5 (ix2 r j)) = wB x0 x1 x2 x3 x4 x5 ρ 2 := by
  funext r
  rw [w02, WN_apply, SL2_apply, SL2_apply, co0_apply x2 ρ j h, g0_apply x0 x1 ρ j h, mu0_apply x0 x1 x5 ρ j h,
    ld_row x3 2 2 0 rfl _ j ρ h, ld_row x4 2 2 0 rfl _ j ρ h]
  rfl

theorem w03_apply (ρ : Fin 1024) (j : Fin 512) (h : ρ.val = 0 + j.val) :
    (fun r => w03 x0 x1 x2 x3 x4 x5 (ix2 r j)) = wB x0 x1 x2 x3 x4 x5 ρ 3 := by
  funext r
  rw [w03, WN_apply, SL3_apply, SL3_apply, co0_apply x2 ρ j h, g0_apply x0 x1 ρ j h, mu0_apply x0 x1 x5 ρ j h,
    ld_row x3 3 3 0 rfl _ j ρ h, ld_row x4 3 3 0 rfl _ j ρ h]
  rfl

theorem v0_apply (ρ : Fin 1024) (j : Fin 512) (h : ρ.val = 0 + j.val) (e : Fin 128) :
    v0 x0 x1 x2 x3 x4 x5 (ix2 e j) = vOf (wB x0 x1 x2 x3 x4 x5 ρ (kOf e)) (rOf e) := by
  have hw : ∀ k r, (![VV (w00 x0 x1 x2 x3 x4 x5), VV (w01 x0 x1 x2 x3 x4 x5), VV (w02 x0 x1 x2 x3 x4 x5),
      VV (w03 x0 x1 x2 x3 x4 x5)] : Fin 4 → FVec Ideal S32x512 .f32) k (ix2 r j) = vOf (wB x0 x1 x2 x3 x4 x5 ρ k) r := by
    intro k r
    match k with
    | ⟨0, _⟩ => exact (VV_apply _ r j).trans (congrArg (vOf · r) (w00_apply x0 x1 x2 x3 x4 x5 ρ j h))
    | ⟨1, _⟩ => exact (VV_apply _ r j).trans (congrArg (vOf · r) (w01_apply x0 x1 x2 x3 x4 x5 ρ j h))
    | ⟨2, _⟩ => exact (VV_apply _ r j).trans (congrArg (vOf · r) (w02_apply x0 x1 x2 x3 x4 x5 ρ j h))
    | ⟨3, _⟩ => exact (VV_apply _ r j).trans (congrArg (vOf · r) (w03_apply x0 x1 x2 x3 x4 x5 ρ j h))
  exact (CAT_apply ![VV (w00 x0 x1 x2 x3 x4 x5), VV (w01 x0 x1 x2 x3 x4 x5), VV (w02 x0 x1 x2 x3 x4 x5),
    VV (w03 x0 x1 x2 x3 x4 x5)] e j).trans (hw _ _)

theorem g1_apply (ρ : Fin 1024) (j : Fin 512) (h : ρ.val = 512 + j.val) (e : Fin 128) :
    g1 x0 x1 (ix2 e j) = gB x0 x1 ρ e := by
  refine grad_apply x0 x1 _ _ _ _ ρ j (fun q l hl => ?_) e
  have hk : ∀ k : Fin 8, k.val = ρ.val / 128 → x0 (ix3 k q l) = x0 (ix3 ⟨ρ.val / 128, by omega⟩ q ⟨ρ.val % 128, by omega⟩) :=
    fun k hk => congrArg₂ (fun a b => x0 (ix3 a q b)) (Fin.ext hk) (Fin.ext (by show l.val = ρ.val % 128; omega))
  rcases (by omega : j.val < 128 ∨ (128 ≤ j.val ∧ j.val < 256) ∨ (256 ≤ j.val ∧ j.val < 384) ∨ 384 ≤ j.val) with c | c | c | c
  · rw [show ∀ a b c d : Vec Ideal S1x128x128 .i32, pick a b c d j = a from fun _ _ _ _ => if_pos c]
    exact (ld_slab x0 4 _ q l).trans (hk _ (by show 4 = _; omega))
  · rw [show ∀ a b c d : Vec Ideal S1x128x128 .i32, pick a b c d j = b from fun _ _ _ _ => (if_neg (by omega)).trans (if_pos (by omega))]
    exact (ld_slab x0 5 _ q l).trans (hk _ (by show 5 = _; omega))
  · rw [show ∀ a b c d : Vec Ideal S1x128x128 .i32, pick a b c d j = c from
      fun _ _ _ _ => (if_neg (by omega)).trans ((if_neg (by omega)).trans (if_pos (by omega)))]
    exact (ld_slab x0 6 _ q l).trans (hk _ (by show 6 = _; omega))
  · rw [show ∀ a b c d : Vec Ideal S1x128x128 .i32, pick a b c d j = d from
      fun _ _ _ _ => (if_neg (by omega)).trans ((if_neg (by omega)).trans (if_neg (by omega)))]
    exact (ld_slab x0 7 _ q l).trans (hk _ (by show 7 = _; omega))

theorem st1_apply (ρ : Fin 1024) (j : Fin 512) (h : ρ.val = 512 + j.val) : st1 x0 x1 x5 (ix2 0 j) = stB x0 x1 x5 ρ := by
  rw [st1, ST_apply, ld_mom x5 512 _ j ρ h]
  simp only [g1_apply x0 x1 ρ j h]
  rfl

theorem co1_apply (ρ : Fin 1024) (j : Fin 512) (h : ρ.val = 512 + j.val) (e : Fin 128) :
    co1 x2 (ix2 e j) = codeB x2 ρ e := by
  rw [co1, CO_apply, ld_words x2 128 _ _ e ⟨128 * (ρ.val / 512) + ρ.val % 128, by omega⟩ (by dsimp only; omega)]
  exact congrArg (uByte _) (by omega)

theorem mu1_apply (ρ : Fin 1024) (j : Fin 512) (h : ρ.val = 512 + j.val) :
    mu1 x0 x1 x5 (ix2 0 j) = multRow (stB x0 x1 x5 ρ) := by
  rw [mu1, MU_apply, st1_apply x0 x1 x5 ρ j h]

theorem w10_apply (ρ : Fin 1024) (j : Fin 512) (h : ρ.val = 512 + j.val) :
    (fun r => w10 x0 x1 x2 x3 x4 x5 (ix2 r j)) = wB x0 x1 x2 x3 x4 x5 ρ 0 := by
  funext r
  rw [w10, WN_apply, SL0_apply, SL0_apply, co1_apply x2 ρ j h, g1_apply x0 x1 ρ j h, mu1_apply x0 x1 x5 ρ j h,
    ld_row x3 0 0 512 rfl _ j ρ h, ld_row x4 0 0 512 rfl _ j ρ h]
  rfl

theorem w11_apply (ρ : Fin 1024) (j : Fin 512) (h : ρ.val = 512 + j.val) :
    (fun r => w11 x0 x1 x2 x3 x4 x5 (ix2 r j)) = wB x0 x1 x2 x3 x4 x5 ρ 1 := by
  funext r
  rw [w11, WN_apply, SL1_apply, SL1_apply, co1_apply x2 ρ j h, g1_apply x0 x1 ρ j h, mu1_apply x0 x1 x5 ρ j h,
    ld_row x3 1 1 512 rfl _ j ρ h, ld_row x4 1 1 512 rfl _ j ρ h]
  rfl

theorem w12_apply (ρ : Fin 1024) (j : Fin 512) (h : ρ.val = 512 + j.val) :
    (fun r => w12 x0 x1 x2 x3 x4 x5 (ix2 r j)) = wB x0 x1 x2 x3 x4 x5 ρ 2 := by
  funext r
  rw [w12, WN_apply, SL2_apply, SL2_apply, co1_apply x2 ρ j h, g1_apply x0 x1 ρ j h, mu1_apply x0 x1 x5 ρ j h,
    ld_row x3 2 2 512 rfl _ j ρ h, ld_row x4 2 2 512 rfl _ j ρ h]
  rfl

theorem w13_apply (ρ : Fin 1024) (j : Fin 512) (h : ρ.val = 512 + j.val) :
    (fun r => w13 x0 x1 x2 x3 x4 x5 (ix2 r j)) = wB x0 x1 x2 x3 x4 x5 ρ 3 := by
  funext r
  rw [w13, WN_apply, SL3_apply, SL3_apply, co1_apply x2 ρ j h, g1_apply x0 x1 ρ j h, mu1_apply x0 x1 x5 ρ j h,
    ld_row x3 3 3 512 rfl _ j ρ h, ld_row x4 3 3 512 rfl _ j ρ h]
  rfl

theorem v1_apply (ρ : Fin 1024) (j : Fin 512) (h : ρ.val = 512 + j.val) (e : Fin 128) :
    v1 x0 x1 x2 x3 x4 x5 (ix2 e j) = vOf (wB x0 x1 x2 x3 x4 x5 ρ (kOf e)) (rOf e) := by
  have hw : ∀ k r, (![VV (w10 x0 x1 x2 x3 x4 x5), VV (w11 x0 x1 x2 x3 x4 x5), VV (w12 x0 x1 x2 x3 x4 x5),
      VV (w13 x0 x1 x2 x3 x4 x5)] : Fin 4 → FVec Ideal S32x512 .f32) k (ix2 r j) = vOf (wB x0 x1 x2 x3 x4 x5 ρ k) r := by
    intro k r
    match k with
    | ⟨0, _⟩ => exact (VV_apply _ r j).trans (congrArg (vOf · r) (w10_apply x0 x1 x2 x3 x4 x5 ρ j h))
    | ⟨1, _⟩ => exact (VV_apply _ r j).trans (congrArg (vOf · r) (w11_apply x0 x1 x2 x3 x4 x5 ρ j h))
    | ⟨2, _⟩ => exact (VV_apply _ r j).trans (congrArg (vOf · r) (w12_apply x0 x1 x2 x3 x4 x5 ρ j h))
    | ⟨3, _⟩ => exact (VV_apply _ r j).trans (congrArg (vOf · r) (w13_apply x0 x1 x2 x3 x4 x5 ρ j h))
  exact (CAT_apply ![VV (w10 x0 x1 x2 x3 x4 x5), VV (w11 x0 x1 x2 x3 x4 x5), VV (w12 x0 x1 x2 x3 x4 x5),
    VV (w13 x0 x1 x2 x3 x4 x5)] e j).trans (hw _ _)

/-! ## The four output blocks -/

/-- The codes of 128 rows in one store. -/
theorem codes_piece (v : FVec Ideal S128x128 .f32) (o : ℕ) (inb) (ρ : Fin 1024) (d : Fin 128) (x : S128x128.Idx)
    (h0 : ρ.val = o + (x 0).val) (h1 : d.val = (x 1).val) (y : EReal) (hv : ∀ l : Fin 128, ρ.val = o + l.val → v (ix2 d l) = y) :
    QU v (View.ld x6 (Rect.unit (s := S1024x128) ![o, 0] S128x128.size inb)) x = quant y (x6 (ix2 ρ d)) := by
  obtain ⟨l, hl⟩ : ∃ l : Fin 128, l = x 0 := ⟨_, rfl⟩
  have hd : d = x 1 := Fin.ext h1
  have hx : x = ix2 l d := by funext a; match a with | ⟨0, _⟩ => exact hl.symm | ⟨1, _⟩ => exact hd.symm
  have hρ : ρ.val = o + l.val := by rw [hl]; exact h0
  rw [hx, QU_apply, hv l hρ, ld_bits x6 o inb l d ρ hρ]

/-- One row of 512 values in one store. -/
theorem row_piece (w : FVec Ideal S1x512 .f32) (o : ℕ) (ρ : Fin 1024) (x : S1x512.Idx) (h1 : ρ.val = o + (x 1).val) (y : EReal)
    (hw : ∀ j : Fin 512, ρ.val = o + j.val → w (ix2 0 j) = y) : w x = y := by
  obtain ⟨j, hj⟩ : ∃ j : Fin 512, j = x 1 := ⟨_, rfl⟩
  have hx : x = ix2 0 j := by
    funext a; match a with | ⟨0, _⟩ => exact Subsingleton.elim (α := Fin 1) _ _ | ⟨1, _⟩ => exact hj.symm
  rw [hx]
  exact hw j (by rw [hj]; exact h1)

theorem out7_apply (ρ : Fin 1024) (d : Fin 128) : out0_7 x0 x1 x2 x3 x4 x5 x6 (ix2 ρ d)
    = quant (vOf (wB x0 x1 x2 x3 x4 x5 ρ (kOf d)) (rOf d)) (x6 (ix2 ρ d)) := by
  rw [out7_eq]
  canon_tiles x h
  · exact codes_piece x6 _ 896 _ ρ d x h0 h1 _ fun l hl =>
      (TL3_apply _ d l).trans (v1_apply x0 x1 x2 x3 x4 x5 ρ _ (by dsimp only; omega) d)
  · exact codes_piece x6 _ 768 _ ρ d x h0 h1 _ fun l hl =>
      (TL2_apply _ d l).trans (v1_apply x0 x1 x2 x3 x4 x5 ρ _ (by dsimp only; omega) d)
  · exact codes_piece x6 _ 640 _ ρ d x h0 h1 _ fun l hl =>
      (TL1_apply _ d l).trans (v1_apply x0 x1 x2 x3 x4 x5 ρ _ (by dsimp only; omega) d)
  · exact codes_piece x6 _ 512 _ ρ d x h0 h1 _ fun l hl =>
      (TL0_apply _ d l).trans (v1_apply x0 x1 x2 x3 x4 x5 ρ _ (by dsimp only; omega) d)
  · exact codes_piece x6 _ 384 _ ρ d x h0 h1 _ fun l hl =>
      (TL3_apply _ d l).trans (v0_apply x0 x1 x2 x3 x4 x5 ρ _ (by dsimp only; omega) d)
  · exact codes_piece x6 _ 256 _ ρ d x h0 h1 _ fun l hl =>
      (TL2_apply _ d l).trans (v0_apply x0 x1 x2 x3 x4 x5 ρ _ (by dsimp only; omega) d)
  · exact codes_piece x6 _ 128 _ ρ d x h0 h1 _ fun l hl =>
      (TL1_apply _ d l).trans (v0_apply x0 x1 x2 x3 x4 x5 ρ _ (by dsimp only; omega) d)
  · exact codes_piece x6 _ 0 _ ρ d x (Eq.trans h0 (Nat.zero_add _).symm) h1 _ fun l hl =>
      (TL0_apply _ d l).trans (v0_apply x0 x1 x2 x3 x4 x5 ρ _ (by dsimp only; omega) d)

theorem out8_apply (k : Fin 4) (ρ : Fin 1024) : out0_8 x0 x1 x2 x3 x4 x5 x6 (ix2 k ρ) = scaleOf (wB x0 x1 x2 x3 x4 x5 ρ k) := by
  rw [out8_eq]
  canon_tiles x h
  · obtain rfl : k = 3 := Fin.ext (by have h : k.val = 3 + (x 0).val := h0; show k.val = 3; omega)
    exact row_piece _ 512 ρ x h1 _ fun j hj => (SC_apply _ 0 j).trans (congrArg scaleOf (w13_apply x0 x1 x2 x3 x4 x5 ρ j hj))
  · obtain rfl : k = 2 := Fin.ext (by have h : k.val = 2 + (x 0).val := h0; show k.val = 2; omega)
    exact row_piece _ 512 ρ x h1 _ fun j hj => (SC_apply _ 0 j).trans (congrArg scaleOf (w12_apply x0 x1 x2 x3 x4 x5 ρ j hj))
  · obtain rfl : k = 1 := Fin.ext (by have h : k.val = 1 + (x 0).val := h0; show k.val = 1; omega)
    exact row_piece _ 512 ρ x h1 _ fun j hj => (SC_apply _ 0 j).trans (congrArg scaleOf (w11_apply x0 x1 x2 x3 x4 x5 ρ j hj))
  · obtain rfl : k = 0 := Fin.ext (by have h : k.val = (x 0).val := h0; show k.val = 0; omega)
    exact row_piece _ 512 ρ x h1 _ fun j hj => (SC_apply _ 0 j).trans (congrArg scaleOf (w10_apply x0 x1 x2 x3 x4 x5 ρ j hj))
  · obtain rfl : k = 3 := Fin.ext (by have h : k.val = 3 + (x 0).val := h0; show k.val = 3; omega)
    exact row_piece _ 0 ρ x (Eq.trans h1 (Nat.zero_add _).symm) _ fun j hj => (SC_apply _ 0 j).trans (congrArg scaleOf (w03_apply x0 x1 x2 x3 x4 x5 ρ j hj))
  · obtain rfl : k = 2 := Fin.ext (by have h : k.val = 2 + (x 0).val := h0; show k.val = 2; omega)
    exact row_piece _ 0 ρ x (Eq.trans h1 (Nat.zero_add _).symm) _ fun j hj => (SC_apply _ 0 j).trans (congrArg scaleOf (w02_apply x0 x1 x2 x3 x4 x5 ρ j hj))
  · obtain rfl : k = 1 := Fin.ext (by have h : k.val = 1 + (x 0).val := h0; show k.val = 1; omega)
    exact row_piece _ 0 ρ x (Eq.trans h1 (Nat.zero_add _).symm) _ fun j hj => (SC_apply _ 0 j).trans (congrArg scaleOf (w01_apply x0 x1 x2 x3 x4 x5 ρ j hj))
  · obtain rfl : k = 0 := Fin.ext (by have h : k.val = (x 0).val := h0; show k.val = 0; omega)
    exact row_piece _ 0 ρ x (Eq.trans h1 (Nat.zero_add _).symm) _ fun j hj => (SC_apply _ 0 j).trans (congrArg scaleOf (w00_apply x0 x1 x2 x3 x4 x5 ρ j hj))

theorem out9_apply (k : Fin 4) (ρ : Fin 1024) : out0_9 x0 x1 x2 x3 x4 x5 x6 (ix2 k ρ) = mnOf (wB x0 x1 x2 x3 x4 x5 ρ k) := by
  rw [out9_eq]
  canon_tiles x h
  · obtain rfl : k = 3 := Fin.ext (by have h : k.val = 3 + (x 0).val := h0; show k.val = 3; omega)
    exact row_piece _ 512 ρ x h1 _ fun j hj => (MN_apply _ 0 j).trans (congrArg mnOf (w13_apply x0 x1 x2 x3 x4 x5 ρ j hj))
  · obtain rfl : k = 2 := Fin.ext (by have h : k.val = 2 + (x 0).val := h0; show k.val = 2; omega)
    exact row_piece _ 512 ρ x h1 _ fun j hj => (MN_apply _ 0 j).trans (congrArg mnOf (w12_apply x0 x1 x2 x3 x4 x5 ρ j hj))
  · obtain rfl : k = 1 := Fin.ext (by have h : k.val = 1 + (x 0).val := h0; show k.val = 1; omega)
    exact row_piece _ 512 ρ x h1 _ fun j hj => (MN_apply _ 0 j).trans (congrArg mnOf (w11_apply x0 x1 x2 x3 x4 x5 ρ j hj))
  · obtain rfl : k = 0 := Fin.ext (by have h : k.val = (x 0).val := h0; show k.val = 0; omega)
    exact row_piece _ 512 ρ x h1 _ fun j hj => (MN_apply _ 0 j).trans (congrArg mnOf (w10_apply x0 x1 x2 x3 x4 x5 ρ j hj))
  · obtain rfl : k = 3 := Fin.ext (by have h : k.val = 3 + (x 0).val := h0; show k.val = 3; omega)
    exact row_piece _ 0 ρ x (Eq.trans h1 (Nat.zero_add _).symm) _ fun j hj => (MN_apply _ 0 j).trans (congrArg mnOf (w03_apply x0 x1 x2 x3 x4 x5 ρ j hj))
  · obtain rfl : k = 2 := Fin.ext (by have h : k.val = 2 + (x 0).val := h0; show k.val = 2; omega)
    exact row_piece _ 0 ρ x (Eq.trans h1 (Nat.zero_add _).symm) _ fun j hj => (MN_apply _ 0 j).trans (congrArg mnOf (w02_apply x0 x1 x2 x3 x4 x5 ρ j hj))
  · obtain rfl : k = 1 := Fin.ext (by have h : k.val = 1 + (x 0).val := h0; show k.val = 1; omega)
    exact row_piece _ 0 ρ x (Eq.trans h1 (Nat.zero_add _).symm) _ fun j hj => (MN_apply _ 0 j).trans (congrArg mnOf (w01_apply x0 x1 x2 x3 x4 x5 ρ j hj))
  · obtain rfl : k = 0 := Fin.ext (by have h : k.val = (x 0).val := h0; show k.val = 0; omega)
    exact row_piece _ 0 ρ x (Eq.trans h1 (Nat.zero_add _).symm) _ fun j hj => (MN_apply _ 0 j).trans (congrArg mnOf (w00_apply x0 x1 x2 x3 x4 x5 ρ j hj))

theorem out10_apply (z : Fin 1) (ρ : Fin 1024) : out0_10 x0 x1 x2 x3 x4 x5 x6 (ix2 z ρ) = stB x0 x1 x5 ρ := by
  rw [out10_eq]
  canon_tiles x h
  · exact row_piece _ 512 ρ x h1 _ fun j hj => st1_apply x0 x1 x5 ρ j hj
  · exact row_piece _ 0 ρ x (Eq.trans h1 (Nat.zero_add _).symm) _ fun j hj => st0_apply x0 x1 x5 ρ j hj

end Cert.Proof.Block

end
-- ==== Proof.Arr.lean ====
/-
  Hand-written, untrusted. The kernel's blocks and result arrays: what each input block holds of its argument array, and each
  result array as any function that agrees with the body's result on every block.
-/
module

public import proofs.«01_k».proof.Proof.Gen.KernelIdeal.Value
public import proofs.«01_k».proof.Proof.Block
public import Idealize.ShloMosaic.Lib.Pipeline.ValueKit

@[expose] public section

set_option maxRecDepth 16384

noncomputable section

namespace Cert.Proof.Arr

open Idealize.ShloMosaic Idealize.ShloMosaic.TcCoe Cert.KernelIdeal Cert.KernelIdeal.Gen Cert.Proof.Spec Cert.Proof.Block

variable (m : (ℓ : Loc nD τ sig) → Buf (Elt Ideal) ℓ)

theorem index0 : ∀ t : Fin cfg0.N, win0_0.index t = ![t.val, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![0, t.val] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, t.val] := (by decide +kernel : ∀ t : Fin grid0.N, _)
theorem index9 : ∀ t : Fin cfg0.N, win0_9.index t = ![0, t.val] := (by decide +kernel : ∀ t : Fin grid0.N, _)
theorem index10 : ∀ t : Fin cfg0.N, win0_10.index t = ![0, t.val] := (by decide +kernel : ∀ t : Fin grid0.N, _)

/-- Row `ρ` of block `t`. -/
def urow (t : Fin cfg0.N) (ρ : Fin 1024) : Fin 32768 := ⟨1024 * t.val + ρ.val, by have := t.isLt; have h : cfg0.N = 32 := rfl; omega⟩

theorem blk0 (c : Dev nD) (t : Fin cfg0.N) (a : Fin 8) (q l : Fin 128) (A : Fin 256) (h : A.val = 8 * t.val + a.val) :
    iblk m c 0 t (ix3 a q l) = m ((c : Thread nD τ).loc main_arg1) (ix3 A q l) := by
  refine Eq.trans ?_ (congrFun (V_main_arg1 m c) _)
  blk_simp [iblk]
  refine congrArg _ ?_
  blk_ext [index0]

theorem blk1 (c : Dev nD) (t : Fin cfg0.N) : iblk m c 1 t = V m c main_v8 := by
  funext i
  blk_simp [iblk]
  refine congrArg _ ?_
  blk_ext [index1]

theorem blk2 (c : Dev nD) (t : Fin cfg0.N) (q : Fin 256) (d : Fin 128) (Q : Fin 8192) (h : Q.val = 256 * t.val + q.val) :
    iblk m c 2 t (ix2 q d) = m ((c : Thread nD τ).loc main_arg2) (ix2 Q d) := by
  refine Eq.trans ?_ (congrFun (V_main_arg2 m c) _)
  blk_simp [iblk]
  refine congrArg _ ?_
  blk_ext [index2]

theorem blk3 (c : Dev nD) (t : Fin cfg0.N) (k : Fin 4) (ρ : Fin 1024) :
    iblk m c 3 t (ix2 k ρ) = m ((c : Thread nD τ).loc main_arg3) (ix2 k (urow t ρ)) := by
  refine Eq.trans ?_ (congrFun (V_main_arg3 m c) _)
  blk_simp [iblk]
  refine congrArg _ ?_
  blk_ext [index3, urow]

theorem blk4 (c : Dev nD) (t : Fin cfg0.N) (k : Fin 4) (ρ : Fin 1024) :
    iblk m c 4 t (ix2 k ρ) = m ((c : Thread nD τ).loc main_arg4) (ix2 k (urow t ρ)) := by
  refine Eq.trans ?_ (congrFun (V_main_arg4 m c) _)
  blk_simp [iblk]
  refine congrArg _ ?_
  blk_ext [index4, urow]

theorem blk5 (c : Dev nD) (t : Fin cfg0.N) (z : Fin 1) (ρ : Fin 1024) :
    iblk m c 5 t (ix2 z ρ) = m ((c : Thread nD τ).loc main_arg5) (ix2 z (urow t ρ)) := by
  refine Eq.trans ?_ (congrFun (V_main_arg5 m c) _)
  blk_simp [iblk]
  refine congrArg _ ?_
  blk_ext [index5, urow]

theorem blk6 (c : Dev nD) (t : Fin cfg0.N) (ρ : Fin 1024) (d : Fin 128) :
    iblk m c 6 t (ix2 ρ d) = m ((c : Thread nD τ).loc main_arg6) (ix2 (urow t ρ) d) := by
  refine Eq.trans ?_ (congrFun (V_main_arg6 m c) _)
  blk_simp [iblk]
  refine congrArg _ ?_
  blk_ext [index6, urow]

theorem final7 (c : Dev nD) (G : Buf (Elt Ideal) ((c : Thread nD τ).loc main_v9_0))
    (h : ∀ t ρ d, out0_7 (iblk m c 0 t) (iblk m c 1 t) (iblk m c 2 t) (iblk m c 3 t) (iblk m c 4 t) (iblk m c 5 t) (iblk m c 6 t) (ix2 ρ d)
      = G (ix2 (urow t ρ) d)) : (dats m 0 c).arrAt 7 cfg0.N = G := by
  refine (dats m 0 c).arrAt_eq_of_covers 7 _ (by decide +kernel) fun t hf y => ?_
  blk_simp
  rw [after0_7]
  have hy : y = ix2 (y 0) (y 1) := by funext a; match a with | ⟨0, _⟩ => rfl | ⟨1, _⟩ => rfl
  refine (congrArg _ hy).trans ((h t (y 0) (y 1)).trans (congrArg G ?_))
  blk_ext [index7, urow]

theorem final8 (c : Dev nD) (G : Buf (Elt Ideal) ((c : Thread nD τ).loc main_v9_1))
    (h : ∀ t k ρ, out0_8 (iblk m c 0 t) (iblk m c 1 t) (iblk m c 2 t) (iblk m c 3 t) (iblk m c 4 t) (iblk m c 5 t) (iblk m c 6 t) (ix2 k ρ)
      = G (ix2 k (urow t ρ))) : (dats m 0 c).arrAt 8 cfg0.N = G := by
  refine (dats m 0 c).arrAt_eq_of_covers 8 _ (by decide +kernel) fun t hf y => ?_
  blk_simp
  rw [after0_8]
  have hy : y = ix2 (y 0) (y 1) := by funext a; match a with | ⟨0, _⟩ => rfl | ⟨1, _⟩ => rfl
  refine (congrArg _ hy).trans ((h t (y 0) (y 1)).trans (congrArg G ?_))
  blk_ext [index8, urow]

theorem final9 (c : Dev nD) (G : Buf (Elt Ideal) ((c : Thread nD τ).loc main_v9_2))
    (h : ∀ t k ρ, out0_9 (iblk m c 0 t) (iblk m c 1 t) (iblk m c 2 t) (iblk m c 3 t) (iblk m c 4 t) (iblk m c 5 t) (iblk m c 6 t) (ix2 k ρ)
      = G (ix2 k (urow t ρ))) : (dats m 0 c).arrAt 9 cfg0.N = G := by
  refine (dats m 0 c).arrAt_eq_of_covers 9 _ (by decide +kernel) fun t hf y => ?_
  blk_simp
  rw [after0_9]
  have hy : y = ix2 (y 0) (y 1) := by funext a; match a with | ⟨0, _⟩ => rfl | ⟨1, _⟩ => rfl
  refine (congrArg _ hy).trans ((h t (y 0) (y 1)).trans (congrArg G ?_))
  blk_ext [index9, urow]

theorem final10 (c : Dev nD) (G : Buf (Elt Ideal) ((c : Thread nD τ).loc main_v9_3))
    (h : ∀ t k ρ, out0_10 (iblk m c 0 t) (iblk m c 1 t) (iblk m c 2 t) (iblk m c 3 t) (iblk m c 4 t) (iblk m c 5 t) (iblk m c 6 t) (ix2 k ρ)
      = G (ix2 k (urow t ρ))) : (dats m 0 c).arrAt 10 cfg0.N = G := by
  refine (dats m 0 c).arrAt_eq_of_covers 10 _ (by decide +kernel) fun t hf y => ?_
  blk_simp
  rw [after0_10]
  have hy : y = ix2 (y 0) (y 1) := by funext a; match a with | ⟨0, _⟩ => rfl | ⟨1, _⟩ => rfl
  refine (congrArg _ hy).trans ((h t (y 0) (y 1)).trans (congrArg G ?_))
  blk_ext [index10, urow]

end Cert.Proof.Arr

end
-- ==== Proof.Ref.lean ====
/-
  Hand-written, untrusted. The reference's four results read at an index: each is the row formula of Spec.lean at the row's
  gradient sum, codes, scales, biases, state and random words.
-/
module

public import proofs.«01_k».proof.Proof.Gen.ReferenceIdeal.Read
public import proofs.«01_k».proof.Proof.Spec

@[expose] public section

set_option maxRecDepth 16384

noncomputable section

namespace Cert.Proof.Ref

open Idealize.ShloMosaic Cert.ReferenceIdeal Cert.ReferenceIdeal.Read Cert.Proof.Spec

variable (x0 : (⟨S512x128, .f32⟩ : BufTy).Contents (Elt Ideal)) (x1 : (⟨S256x128x128, .i32⟩ : BufTy).Contents (Elt Ideal))
  (x2 : (⟨S8192x128, .i32⟩ : BufTy).Contents (Elt Ideal)) (x3 x4 : (⟨S4x32768, .f32⟩ : BufTy).Contents (Elt Ideal))
  (x5 : (⟨S1x32768, .f32⟩ : BufTy).Contents (Elt Ideal)) (x6 : (⟨S32768x128, .i32⟩ : BufTy).Contents (Elt Ideal))

/-- How often row `u` occurs in bag `b`. -/
def look (u : Fin 32768) (b : Fin 512) : EReal :=
  sByte (x1 (ix3 ⟨u.val / 128, by omega⟩ ⟨b.val / 4, by omega⟩ ⟨u.val % 128, by omega⟩)) (b.val % 4)

/-- The gradient sum of row `u`. -/
def gR (u : Fin 32768) (d : Fin 128) : EReal := ∑ b : Fin 512, look x1 u b * x0 (ix2 b d)

/-- The stored code of row `u`. -/
def codeR (u : Fin 32768) (d : Fin 128) : EReal :=
  uByte (x2 (ix2 ⟨128 * (u.val / 512) + u.val % 128, by omega⟩ d)) (u.val / 128 % 4)

/-- A byte cut out by two shifts is the byte read with its sign. -/
theorem toInt_shifts (w : BitVec 32) (j : ℕ) (hj : j < 4) :
    ((w <<< (24 - 8 * j)).sshiftRight 24).toInt = (w.extractLsb' (8 * j) 8).toInt := by
  have h : (w <<< (24 - 8 * j)).sshiftRight 24 = (w.extractLsb' (8 * j) 8).signExtend 32 := by
    apply BitVec.eq_of_getLsbD_eq
    intro i hi
    have : j = 0 ∨ j = 1 ∨ j = 2 ∨ j = 3 := by omega
    simp only [BitVec.getLsbD_sshiftRight, BitVec.getLsbD_signExtend, BitVec.getLsbD_shiftLeft, BitVec.getLsbD_extractLsb',
      BitVec.msb_eq_getLsbD_last]
    by_cases h8 : i < 8
    · rw [if_pos (by omega), if_pos h8]
      rcases this with rfl | rfl | rfl | rfl <;> simp [hi, h8, show ¬ 32 ≤ i by omega,
        show 24 + i < 32 by omega, show ¬ 24 + i < 16 by omega, show ¬ 24 + i < 8 by omega, show 24 + i - 16 = 8 + i by omega,
        show 24 + i - 8 = 16 + i by omega]
    · rw [if_neg (by omega), if_neg h8]
      rcases this with rfl | rfl | rfl | rfl <;> simp [hi]
  rw [h, BitVec.toInt_signExtend_of_le (by decide)]

theorem v22_apply (u : Fin 32768) (q : Fin 128) (j : Fin 4) :
    (((val_main_v22 (F := Ideal) x1 (ix3 u q j)).toInt : ℝ) : EReal)
      = sByte (x1 (ix3 ⟨u.val / 128, by omega⟩ q ⟨u.val % 128, by omega⟩)) j.val := by
  have hI : idx_main_v0 (idx_main_v1 (ix2 u q)) = ix3 ⟨u.val / 128, by omega⟩ q ⟨u.val % 128, by omega⟩ := by
    funext a
    match a with
    | ⟨0, _⟩ => exact Fin.ext (by show (u.val * 128 + q.val) / 16384 = u.val / 128; omega)
    | ⟨1, _⟩ => exact Fin.ext (by show (u.val * 128 + q.val) % 128 = q.val; omega)
    | ⟨2, _⟩ => exact Fin.ext (by show (u.val * 128 + q.val) / 128 % 128 = u.val % 128; omega)
  unfold val_main_v22 sByte
  pointwise
  rw [← hI]
  fin_vals j with hj
  all_goals simp only [hj, Nat.reduceSub, Nat.reduceLT, ↓reduceDIte, val_main_v18_apply, val_main_v19_apply, val_main_v20_apply, val_main_v21_apply, val_main_v5_apply, val_main_v9_apply, val_main_v13_apply, val_main_v17_apply,
    val_main_v3_apply, val_main_v4_apply, val_main_v7_apply, val_main_v8_apply, val_main_v11_apply, val_main_v12_apply, val_main_v15_apply, val_main_v16_apply, val_main_v2_apply, val_main_v6_apply, val_main_v10_apply, val_main_v14_apply, val_main_v1_apply, val_main_v0_apply,
    val_main_c_apply, val_main_c_0_apply, val_main_c_1_apply, val_main_c_2_apply, val_main_c_3_apply, val_main_c_4_apply, val_main_c_5_apply, val_main_c_6_apply]
  · exact congrArg (fun z : ℤ => ((z : ℝ) : EReal)) (toInt_shifts _ 0 (by decide))
  · exact congrArg (fun z : ℤ => ((z : ℝ) : EReal)) (toInt_shifts _ 1 (by decide))
  · exact congrArg (fun z : ℤ => ((z : ℝ) : EReal)) (toInt_shifts _ 2 (by decide))
  · exact congrArg (fun z : ℤ => ((z : ℝ) : EReal)) (toInt_shifts _ 3 (by decide))

theorem v25_apply (u : Fin 32768) (d : Fin 128) : val_main_v25 (F := Ideal) x0 x1 (ix2 u d) = gR x0 x1 u d := by
  rw [val_main_v25_apply]
  refine Finset.sum_congr rfl fun b _ => ?_
  have h0 : ridx_main_v25 (ix2 u d) b = ix2 b d := by funext a; match a with | ⟨0, _⟩ => rfl | ⟨1, _⟩ => rfl
  have h1 : idx_main_v23 (lidx_main_v25 (ix2 u d) b) = ix3 u ⟨b.val / 4, by omega⟩ ⟨b.val % 4, by omega⟩ := by
    funext a
    match a with
    | ⟨0, _⟩ => exact Fin.ext (by show (u.val * 512 + b.val) / 512 = u.val; omega)
    | ⟨1, _⟩ => exact Fin.ext (by show (u.val * 512 + b.val) / 4 % 128 = b.val / 4; omega)
    | ⟨2, _⟩ => exact Fin.ext (by show (u.val * 512 + b.val) % 4 = b.val % 4; omega)
  rw [h0, val_main_v24_apply, val_main_v23_apply, h1]
  exact congrArg (· * _) (v22_apply x1 u _ _)

theorem v47_apply (a : Fin 64) (k : Fin 4) (l d : Fin 128) :
    (((val_main_v47 (F := Ideal) x2 (ix4 a k l d)).toInt : ℝ) : EReal)
      = uByte (x2 (ix2 ⟨128 * a.val + l.val, by omega⟩ d)) k.val := by
  have hI : idx_main_v26 (ix3 a l d) = ix2 ⟨128 * a.val + l.val, by omega⟩ d := by
    funext b
    match b with
    | ⟨0, _⟩ => exact Fin.ext (by show ((a.val * 128 + l.val) * 128 + d.val) / 128 = 128 * a.val + l.val; omega)
    | ⟨1, _⟩ => exact Fin.ext (by show ((a.val * 128 + l.val) * 128 + d.val) % 128 = d.val; omega)
  unfold val_main_v47 uByte
  pointwise
  rw [← hI]
  fin_vals k with hk
  all_goals simp only [hk, Nat.reduceSub, Nat.reduceLT, ↓reduceDIte, val_main_v43_apply, val_main_v44_apply, val_main_v45_apply, val_main_v46_apply,
    val_main_v30_apply, val_main_v34_apply, val_main_v38_apply, val_main_v42_apply, val_main_v28_apply, val_main_v29_apply, val_main_v32_apply, val_main_v33_apply, val_main_v36_apply, val_main_v37_apply, val_main_v40_apply, val_main_v41_apply, val_main_v27_apply, val_main_v31_apply, val_main_v35_apply, val_main_v39_apply, val_main_v26_apply,
    val_main_c_7_apply, val_main_c_8_apply, val_main_c_9_apply, val_main_c_10_apply, val_main_c_11_apply, val_main_c_12_apply, val_main_c_13_apply, val_main_c_14_apply]
  all_goals rfl

theorem v49_apply (u : Fin 32768) (d : Fin 128) : val_main_v49 (F := Ideal) x2 (ix2 u d) = codeR x2 u d := by
  have h1 : idx_main_v48 (ix2 u d) = ix4 ⟨u.val / 512, by omega⟩ ⟨u.val / 128 % 4, by omega⟩ ⟨u.val % 128, by omega⟩ d := by
    funext b
    match b with
    | ⟨0, _⟩ => exact Fin.ext (by show (u.val * 128 + d.val) / 65536 = u.val / 512; omega)
    | ⟨1, _⟩ => exact Fin.ext (by show (u.val * 128 + d.val) / 16384 % 4 = u.val / 128 % 4; omega)
    | ⟨2, _⟩ => exact Fin.ext (by show (u.val * 128 + d.val) / 128 % 128 = u.val % 128; omega)
    | ⟨3, _⟩ => exact Fin.ext (by show (u.val * 128 + d.val) % 128 = d.val; omega)
  rw [val_main_v49_apply, val_main_v48_apply, h1]
  exact v47_apply x2 _ _ _ d

/-- The state of row `u`. -/
def stR (u : Fin 32768) : EReal := stateRow (gR x0 x1 u) (x5 (ix2 0 u))

/-- The updated weights of block `k` of row `u`. -/
def wR (u : Fin 32768) : Fin 4 → Fin 32 → EReal :=
  wRow (gR x0 x1 u) (codeR x2 u) (fun k => x3 (ix2 k u)) (fun k => x4 (ix2 k u)) (x5 (ix2 0 u))

/-- Division by 128 is multiplication by its inverse. -/
theorem div_128 (x : EReal) : Ideal.div x (f32c 0x43000000#32) = x * f32c 0x3C000000#32 := by
  have h1 : f32c 0x43000000#32 = ((128 : ℝ) : EReal) := by simp [f32c, Ideal.ofBits, Ideal.ieee]; rw [← EReal.coe_mul]; norm_num
  have h2 : f32c 0x3C000000#32 = ((1 / 128 : ℝ) : EReal) := by simp [f32c, Ideal.ofBits, Ideal.ieee]; rw [← EReal.coe_mul]; norm_num
  rw [h1, h2, Ideal.div_coe (by norm_num)]

theorem v64_apply (u : Fin 32768) : val_main_v64 (F := Ideal) x0 x1 x5 (ix1 u) = stR x0 x1 x5 u := by
  have h0 : idx_main_v59 (ix1 u) = ix2 0 u := by
    funext a
    match a with
    | ⟨0, _⟩ => rfl
    | ⟨1, _⟩ => exact Fin.ext (by show u.val % 32768 = u.val; omega)
  have h1 : ∀ k, idx_main_v61 (ix1 u) k = ix2 u k := fun k => by
    funext a; match a with | ⟨0, _⟩ => rfl | ⟨1, _⟩ => rfl
  simp -implicitDefEqProofs only [val_main_v64_apply, val_main_v63_apply, val_main_v62_apply, val_main_v61_apply, val_main_v60_apply,
    val_main_v59_apply, val_main_cst_apply, val_main_cst_15_apply, h0, h1, v25_apply]
  refine (congrArg (x5 (ix2 0 u) + ·) ((div_128 _).trans ?_))
  refine congrArg (· * f32c 0x3C000000#32) ?_
  exact (congrArg (· + _) Ideal.ofBits_zero_f32).trans (zero_add _)

theorem v74_apply (u : Fin 32768) (k : Fin 4) (r : Fin 32) :
    val_main_v74 (F := Ideal) x0 x1 x2 x3 x4 x5 (ix3 u k r) = wR x0 x1 x2 x3 x4 x5 u k r := by
  have h0 : idx_main_v50 (ix3 u k r) = ix2 u (at32 k r) := by
    funext a
    match a with
    | ⟨0, _⟩ => exact Fin.ext (by show ((u.val * 4 + k.val) * 32 + r.val) / 128 = u.val; omega)
    | ⟨1, _⟩ => exact Fin.ext (by show ((u.val * 4 + k.val) * 32 + r.val) % 128 = 32 * k.val + r.val; omega)
  have h1 : idx_main_v71 (ix3 u k r) = ix2 u (at32 k r) := h0
  have h2 : idx_main_v51 (idx_main_v52 (idx_main_v53 (ix3 u k r))) = ix2 k u := by
    funext a; match a with | ⟨0, _⟩ => rfl | ⟨1, _⟩ => rfl
  have h3 : idx_main_v55 (idx_main_v56 (idx_main_v57 (ix3 u k r))) = ix2 k u := by
    funext a; match a with | ⟨0, _⟩ => rfl | ⟨1, _⟩ => rfl
  have h4 : idx_main_v70 (idx_main_v72 (ix3 u k r)) = ix1 u := by
    funext a; match a with | ⟨0, _⟩ => rfl
  simp -implicitDefEqProofs only [val_main_v74_apply, val_main_v73_apply, val_main_v72_apply, val_main_v71_apply, val_main_v70_apply,
    val_main_v69_apply, val_main_v68_apply, val_main_v67_apply, val_main_v66_apply, val_main_v65_apply, val_main_cst_16_apply,
    val_main_cst_17_apply, val_main_v50_apply, val_main_v51_apply, val_main_v52_apply, val_main_v53_apply, val_main_v54_apply,
    val_main_v55_apply, val_main_v56_apply, val_main_v57_apply, val_main_v58_apply, h0, h1, h2, h3, h4, v64_apply, v25_apply,
    v49_apply]
  rfl

theorem v75_apply (u : Fin 32768) (k : Fin 4) :
    val_main_v75 (F := Ideal) x0 x1 x2 x3 x4 x5 (ix2 u k) = mnOf (wR x0 x1 x2 x3 x4 x5 u k) := by
  have h := v74_apply x0 x1 x2 x3 x4 x5 u k
  unfold val_main_v75
  generalize val_main_v74 (F := Ideal) x0 x1 x2 x3 x4 x5 = y at h
  rw [← funext h]
  pointwise [val_main_cst_18]
  rfl

theorem v76_apply (u : Fin 32768) (k : Fin 4) :
    val_main_v76 (F := Ideal) x0 x1 x2 x3 x4 x5 (ix2 u k) = mxOf (wR x0 x1 x2 x3 x4 x5 u k) := by
  have h := v74_apply x0 x1 x2 x3 x4 x5 u k
  unfold val_main_v76
  generalize val_main_v74 (F := Ideal) x0 x1 x2 x3 x4 x5 = y at h
  rw [← funext h]
  pointwise [val_main_cst_19]
  rfl

theorem v77_apply (u : Fin 32768) (k : Fin 4) :
    val_main_v77 (F := Ideal) x0 x1 x2 x3 x4 x5 (ix2 u k) = rngOf (wR x0 x1 x2 x3 x4 x5 u k) := by
  rw [val_main_v77_apply, v75_apply, v76_apply]
  generalize wR x0 x1 x2 x3 x4 x5 u k = w
  simp -implicitDefEqProofs only [rngOf, Ideal.subf_def]

theorem v89_apply (u : Fin 32768) (k : Fin 4) (r : Fin 32) :
    val_main_v89 (F := Ideal) x0 x1 x2 x3 x4 x5 (ix3 u k r) = vOf (wR x0 x1 x2 x3 x4 x5 u k) r := by
  have h0 : idx_main_v84 (idx_main_v85 (ix3 u k r)) = ix2 u k := by
    funext a; match a with | ⟨0, _⟩ => rfl | ⟨1, _⟩ => rfl
  have h1 : idx_main_v87 (idx_main_v88 (ix3 u k r)) = ix2 u k := by
    funext a; match a with | ⟨0, _⟩ => rfl | ⟨1, _⟩ => rfl
  simp -implicitDefEqProofs only [val_main_v89_apply, val_main_v88_apply, val_main_v87_apply, val_main_v86_apply, val_main_v85_apply,
    val_main_v84_apply, val_main_v83_apply, val_main_v82_apply, val_main_v81_apply, val_main_v80_apply, val_main_cst_21_apply,
    val_main_cst_22_apply, h0, h1, v74_apply, v75_apply, v77_apply]
  generalize wR x0 x1 x2 x3 x4 x5 u k = w
  simp -implicitDefEqProofs only [vOf, Ideal.mulf_def, Ideal.subf_def, Ideal.addf_def, Ideal.hostDivf_def, Ideal.ofBits_def]

/-- A word shifted right by eight is the same number with its sign and without. -/
theorem toNat_shift (w : BitVec 32) : (((w >>> 8).toNat : ℝ) : EReal) = (((w >>> 8).toInt : ℝ) : EReal) := by
  have h : (w >>> 8).toInt = ((w >>> 8).toNat : ℤ) := BitVec.toInt_eq_toNat_of_lt (by
    rw [BitVec.toNat_ushiftRight, Nat.shiftRight_eq_div_pow]; have := w.isLt; omega)
  rw [h]; norm_cast

/-- The first result: the codes. -/
theorem v101_apply (u : Fin 32768) (d : Fin 128) :
    val_main_v101 (F := Ideal) x0 x1 x2 x3 x4 x5 x6 (ix2 u d)
      = quant (vOf (wR x0 x1 x2 x3 x4 x5 u (kOf d)) (rOf d)) (x6 (ix2 u d)) := by
  have h0 : idx_main_v99 (ix2 u d) = ix3 u (kOf d) (rOf d) := by
    funext a
    match a with
    | ⟨0, _⟩ => exact Fin.ext (by show (u.val * 128 + d.val) / 128 = u.val; omega)
    | ⟨1, _⟩ => exact Fin.ext (by show (u.val * 128 + d.val) / 32 % 4 = d.val / 32; omega)
    | ⟨2, _⟩ => exact Fin.ext (by show (u.val * 128 + d.val) % 32 = d.val % 32; omega)
  have h1 : idx_main_v95 (ix3 u (kOf d) (rOf d)) = ix2 u d := by
    funext a
    match a with
    | ⟨0, _⟩ => exact Fin.ext (by show ((u.val * 4 + d.val / 32) * 32 + d.val % 32) / 128 = u.val; omega)
    | ⟨1, _⟩ => exact Fin.ext (by show ((u.val * 4 + d.val / 32) * 32 + d.val % 32) % 128 = d.val; omega)
  simp -implicitDefEqProofs only [val_main_v101_apply, val_main_v100_apply, val_main_v99_apply, val_main_v98_apply, val_main_call0_v4_apply,
    val_main_call0_v3_apply, val_main_call0_v2_apply, val_main_call0_v1_apply, val_main_call0_v0_apply, val_main_v97_apply,
    val_main_v96_apply, val_main_v95_apply, val_main_v94_apply, val_main_v93_apply, val_main_v92_apply, val_main_v91_apply,
    val_main_v90_apply, val_main_c_23_apply, val_main_cst_24_apply, val_main_cst_25_apply, val_main_cst_26_apply, h0, h1,
    v89_apply]
  generalize vOf (wR x0 x1 x2 x3 x4 x5 u (kOf d)) (rOf d) = v
  refine congrArg (fun z : EReal => BitVec.setWidth 8 (Ideal.fptosi 32 (min (f32c 0x437F0000#32) (max (f32c 0x00000000#32)
    (Ideal.liftRound Int.floor (v + z * f32c 0x33800000#32)))))) ?_
  exact toNat_shift _

/-- The second result: the scales. -/
theorem v102_apply (k : Fin 4) (u : Fin 32768) :
    val_main_v102 (F := Ideal) x0 x1 x2 x3 x4 x5 (ix2 k u) = scaleOf (wR x0 x1 x2 x3 x4 x5 u k) := by
  have h0 : idx_main_v102 (ix2 k u) = ix2 u k := by funext a; match a with | ⟨0, _⟩ => rfl | ⟨1, _⟩ => rfl
  simp -implicitDefEqProofs only [val_main_v102_apply, val_main_v79_apply, val_main_v78_apply, val_main_cst_20_apply, h0, v77_apply]
  generalize wR x0 x1 x2 x3 x4 x5 u k = w
  simp -implicitDefEqProofs only [scaleOf, Ideal.hostDivf_def, Ideal.ofBits_def]

/-- The third result: the least entries. -/
theorem v103_apply (k : Fin 4) (u : Fin 32768) :
    val_main_v103 (F := Ideal) x0 x1 x2 x3 x4 x5 (ix2 k u) = mnOf (wR x0 x1 x2 x3 x4 x5 u k) := by
  have h0 : idx_main_v103 (ix2 k u) = ix2 u k := by funext a; match a with | ⟨0, _⟩ => rfl | ⟨1, _⟩ => rfl
  rw [val_main_v103_apply, h0, v75_apply]

/-- The fourth result: the state. -/
theorem v104_apply (z : Fin 1) (u : Fin 32768) :
    val_main_v104 (F := Ideal) x0 x1 x5 (ix2 z u) = stR x0 x1 x5 u := by
  have h0 : idx_main_v104 (ix2 z u) = ix1 u := by
    funext a; match a with | ⟨0, _⟩ => exact Fin.ext (by show z.val * 32768 + u.val = u.val; omega)
  rw [val_main_v104_apply, h0, v64_apply]

end Cert.Proof.Ref

end
-- ==== Proof.Parts.lean ====
/-
  Hand-written, untrusted. What the host operations before the kernel leave in its gradient operand: the three parts of the
  transposed gradient, one under another, read at an index.
-/
module

public import proofs.«01_k».proof.Proof.Gen.KernelIdeal.Frame
public import Idealize.ShloMosaic.Lib.Pointwise
public import Idealize.ShloMosaic.Lib.StableHlo.ReadAt

@[expose] public section

set_option maxRecDepth 16384

noncomputable section

namespace Cert.Proof.Parts

open Idealize.ShloMosaic Idealize.ShloMosaic.TcCoe Cert.KernelIdeal Cert.KernelIdeal.Gen

/-- The part `i` of a gradient entry: the entry itself, what is left of it after subtracting it, and what is left of that. -/
def part (x : EReal) : Fin 3 → EReal
  | 0 => x
  | 1 => x - x
  | 2 => (x - x) - (x - x)

variable (m : (ℓ : Loc nD τ sig) → Buf (Elt Ideal) ℓ)

/-- The transposed gradient. -/
def gT (c : Dev nD) : FVec Ideal S128x512 .f32 := transpose S128x512 [1, 0] (m ((c : Thread nD τ).loc main_arg0)) transposes_S512x128_S128x512_1_0

/-- What is left of a vector after subtracting its narrowed value. -/
def rest (x : FVec Ideal S128x512 .f32) : FVec Ideal S128x512 .f32 := subf x (extf .f32 (truncf .bf16 x bitsLt_bf16_f32) bitsLt_bf16_f32)

theorem V_v8 (c : Dev nD) : V m c main_v8 = concatenate S384x512 0 [⟨S128x512, truncf .bf16 (gT m c) bitsLt_bf16_f32⟩,
    ⟨S128x512, truncf .bf16 (rest (gT m c)) bitsLt_bf16_f32⟩, ⟨S128x512, truncf .bf16 (rest (rest (gT m c))) bitsLt_bf16_f32⟩]
    concatenates_S128x512_S128x512_S128x512_S384x512_d0 := by
  show StableHlo.after hostOps0 (fun b => m (c, b)) (Proc.devRef .tc main_v8) = _
  unfold hostOps0
  after_results
  rfl

theorem V_parts (c : Dev nD) (p : Fin 3) (d : Fin 128) (b : Fin 512) (i : Fin 384) (h : i.val = 128 * p.val + d.val) :
    V m c main_v8 (ix2 i b) = part (m ((c : Thread nD τ).loc main_arg0) (ix2 b d)) p := by
  rw [V_v8]
  unfold gT
  generalize m ((c : Thread nD τ).loc main_arg0) = x
  pointwise [rest]
  have hd : ∀ e : Fin 128, e.val = d.val → x (ix2 b e) = x (ix2 b d) := fun e he => by rw [show e = d from Fin.ext he]
  match p with
  | ⟨0, _⟩ =>
    rw [dif_pos (by dsimp only at h; omega), hd _ (by dsimp only at h ⊢; omega)]
    rfl
  | ⟨1, _⟩ =>
    rw [dif_neg (by dsimp only at h; omega), dif_pos (by dsimp only at h; omega), hd _ (by dsimp only at h ⊢; omega)]
    rfl
  | ⟨2, _⟩ =>
    rw [dif_neg (by dsimp only at h; omega), dif_neg (by dsimp only at h; omega), hd _ (by dsimp only at h ⊢; omega)]
    rfl

end Cert.Proof.Parts

end
-- ==== Proof.Infinite.lean ====
/-
  Hand-written, untrusted. The gradient split over the extended reals. For finite gradients the second and the third part are 0,
  so the three products add up to the plain product. Where an infinite gradient takes part, both gradient sums are infinite; then
  the state is infinite, the multiplier is 0, and the infinite sums change nothing.
-/
module

public import proofs.«01_k».proof.Proof.Spec
public import proofs.«01_k».proof.Proof.Parts

@[expose] public section

noncomputable section

namespace Cert.Proof.Infinite

open Idealize.ShloMosaic Cert.Proof.Spec Cert.Proof.Parts

/-- Being one of the two infinities. -/
def Inf (y : EReal) : Prop := y = ⊤ ∨ y = ⊥

theorem Inf.add_left {a : EReal} (h : Inf a) (b : EReal) : Inf (a + b) := by
  rcases h with rfl | rfl
  · induction b with
    | bot => exact .inr (EReal.add_bot _)
    | top => exact .inl EReal.top_add_top
    | coe r => exact .inl (EReal.top_add_coe r)
  · exact .inr (EReal.bot_add _)

theorem Inf.add_right {b : EReal} (h : Inf b) (a : EReal) : Inf (a + b) := by
  rw [add_comm]; exact h.add_left a

theorem Inf.mul_coe {a : EReal} (h : Inf a) (r : ℝ) (hr : r ≠ 0) : Inf (a * r) := by
  rcases lt_or_gt_of_ne hr with h0 | h0 <;> rcases h with rfl | rfl
  · exact .inr (EReal.top_mul_coe_of_neg h0)
  · exact .inl (EReal.bot_mul_coe_of_neg h0)
  · exact .inl (EReal.top_mul_coe_of_pos h0)
  · exact .inr (EReal.bot_mul_coe_of_pos h0)

theorem Inf.sq {a : EReal} (h : Inf a) : a * a = ⊤ := by
  rcases h with rfl | rfl
  · exact EReal.top_mul_top
  · exact EReal.bot_mul_bot

theorem Inf.sum {ι : Type} [Fintype ι] [DecidableEq ι] (f : ι → EReal) (i : ι) (h : Inf (f i)) : Inf (∑ i, f i) := by
  rw [← Finset.add_sum_erase _ _ (Finset.mem_univ i)]
  exact h.add_left _

theorem part_of_finite (r : ℝ) : part (r : EReal) 1 = 0 ∧ part (r : EReal) 2 = 0 := by
  have h : (r : EReal) - r = 0 := by rw [← EReal.coe_sub, sub_self, EReal.coe_zero]
  refine ⟨h, ?_⟩
  show ((r : EReal) - r) - ((r : EReal) - r) = 0
  rw [h, sub_zero]

theorem part_of_inf {x : EReal} (h : Inf x) : Inf (part x 1) := by
  rcases h with rfl | rfl
  · exact .inr (by show (⊤ : EReal) - ⊤ = ⊥; rfl)
  · exact .inr (by show (⊥ : EReal) - ⊤ = ⊥; rfl)

theorem sByte_coe (w : BitVec 32) (j : ℕ) : ∃ r : ℝ, sByte w j = r := ⟨_, rfl⟩

/-- The sum of the three parts' products and the plain product: equal, or both infinite. -/
theorem split_sum {n : ℕ} (x c : Fin n → EReal) (hc : ∀ b, ∃ r : ℝ, c b = r) :
    (∑ b, part (x b) 0 * c b) + (∑ b, part (x b) 1 * c b) + (∑ b, part (x b) 2 * c b) = ∑ b, c b * x b
      ∨ (Inf ((∑ b, part (x b) 0 * c b) + (∑ b, part (x b) 1 * c b) + (∑ b, part (x b) 2 * c b)) ∧ Inf (∑ b, c b * x b)) := by
  by_cases h : ∃ b, Inf (x b) ∧ c b ≠ 0
  · obtain ⟨b, hb, h0⟩ := h
    obtain ⟨r, hr⟩ := hc b
    have hr0 : r ≠ 0 := fun e => h0 (by rw [hr, e, EReal.coe_zero])
    right
    refine ⟨Inf.add_left (Inf.add_right (Inf.sum _ b ?_) _) _, Inf.sum _ b ?_⟩
    · rw [hr]; exact (part_of_inf hb).mul_coe r hr0
    · rw [hr, mul_comm]; exact hb.mul_coe r hr0
  · left
    have hz : ∀ b, part (x b) 1 * c b = 0 ∧ part (x b) 2 * c b = 0 := by
      intro b
      by_cases h0 : c b = 0
      · rw [h0, mul_zero, mul_zero]; exact ⟨rfl, rfl⟩
      · have hx : ¬ Inf (x b) := fun hi => h ⟨b, hi, h0⟩
        generalize x b = y at hx ⊢
        induction y with
        | bot => exact absurd (.inr rfl) hx
        | top => exact absurd (.inl rfl) hx
        | coe r => rw [(part_of_finite r).1, (part_of_finite r).2, zero_mul]; exact ⟨rfl, rfl⟩
    rw [Finset.sum_eq_zero fun b _ => (hz b).1, Finset.sum_eq_zero fun b _ => (hz b).2, add_zero, add_zero]
    exact Finset.sum_congr rfl fun b _ => mul_comm _ _

/-- Two gradient sums that are equal, or both infinite, at every entry. -/
def Alike (g g' : Fin 128 → EReal) : Prop := ∀ d, g d = g' d ∨ (Inf (g d) ∧ Inf (g' d))

variable {g g' : Fin 128 → EReal}

theorem stateRow_alike (h : Alike g g') (mom : EReal) : stateRow g mom = stateRow g' mom := by
  have hs : ∀ d, g d * g d = g' d * g' d := fun d => by
    rcases h d with e | ⟨e, e'⟩
    · rw [e]
    · rw [e.sq, e'.sq]
  unfold stateRow
  simp only [hs]

theorem multRow_inf (d : Fin 128) (h : Inf (g d)) (mom : EReal) : multRow (stateRow g mom) = 0 := by
  have hc : f32c 0x3C000000#32 = ((1 / 128 : ℝ) : EReal) := by
    simp [f32c, Ideal.ofBits, Ideal.ieee]; rw [← EReal.coe_mul]; norm_num
  have hs : Inf (stateRow g mom) := by
    refine Inf.add_right ?_ _
    rw [hc]
    exact Inf.mul_coe (Inf.sum _ d (.inl h.sq)) _ (by norm_num)
  unfold multRow
  generalize stateRow g mom = s at hs
  have hq : Inf (Ideal.sqrt s) := by
    rcases hs with rfl | rfl
    · exact .inl Ideal.sqrt_top
    · exact .inr Ideal.sqrt_bot
  have hq' := hq.add_left (f32c 0x322BCC77#32)
  generalize Ideal.sqrt s + f32c 0x322BCC77#32 = y at hq'
  rcases hq' with rfl | rfl
  · rw [Ideal.div, if_neg EReal.top_ne_zero, EReal.inv_top, mul_zero]
  · rw [Ideal.div, if_neg EReal.bot_ne_zero, EReal.inv_bot, mul_zero]

theorem wRow_alike (h : Alike g g') (c : Fin 128 → EReal) (s b : Fin 4 → EReal) (mom : EReal) :
    wRow g c s b mom = wRow g' c s b mom := by
  funext k r
  unfold wRow wAt
  rw [stateRow_alike h mom]
  rcases h (at32 k r) with e | ⟨_, e⟩
  · rw [e]
  · rw [multRow_inf _ e mom, zero_mul, zero_mul]

end Cert.Proof.Infinite

end
-- ==== Proof.Final.lean ====
/-
  Hand-written, untrusted. The kernel's four result arrays equal the reference's four results: block by block, the kernel's row
  sums, codes and weights are those of the reference's row.
-/
module

public import proofs.«01_k».proof.Proof.Arr
public import proofs.«01_k».proof.Proof.Ref
public import proofs.«01_k».proof.Proof.Infinite

@[expose] public section

set_option maxRecDepth 16384

noncomputable section

namespace Cert.Proof.Final

open Idealize.ShloMosaic Idealize.ShloMosaic.TcCoe Cert.KernelIdeal Cert.KernelIdeal.Gen Cert.Proof.Spec Cert.Proof.Block Cert.Proof.Ref
  Cert.Proof.Arr Cert.Proof.Parts Cert.Proof.Infinite

variable (m : (ℓ : Loc nD τ sig) → Buf (Elt Ideal) ℓ) (c : Dev nD) (t : Fin cfg0.N) (ρ : Fin 1024)

theorem look_eq (b : Fin 512) : lookB (iblk m c 0 t) ρ b = look (m ((c : Thread nD τ).loc main_arg1)) (urow t ρ) b := by
  have ht := t.isLt
  have hN : cfg0.N = 32 := rfl
  have hl : (⟨ρ.val % 128, by omega⟩ : Fin 128) = ⟨(urow t ρ).val % 128, by omega⟩ :=
    Fin.ext (by show ρ.val % 128 = (1024 * t.val + ρ.val) % 128; omega)
  unfold lookB look
  refine congrArg (fun w => sByte w (b.val % 4)) ?_
  refine (blk0 m c t _ _ _ ⟨(urow t ρ).val / 128, by omega⟩ ?_).trans ?_
  · show (1024 * t.val + ρ.val) / 128 = 8 * t.val + ρ.val / 128
    omega
  · exact congrArg (fun l => m ((c : Thread nD τ).loc main_arg1) (ix3 ⟨(urow t ρ).val / 128, by omega⟩ ⟨b.val / 4, by omega⟩ l)) hl

theorem code_eq : codeB (iblk m c 2 t) ρ = codeR (m ((c : Thread nD τ).loc main_arg2)) (urow t ρ) := by
  have ht := t.isLt
  have hN : cfg0.N = 32 := rfl
  have hj : ρ.val / 128 % 4 = (urow t ρ).val / 128 % 4 := by
    show ρ.val / 128 % 4 = (1024 * t.val + ρ.val) / 128 % 4
    omega
  funext d
  unfold codeB codeR
  refine congrArg₂ uByte ?_ hj
  refine blk2 m c t _ d _ ?_
  show 128 * ((1024 * t.val + ρ.val) / 512) + (1024 * t.val + ρ.val) % 128 = 256 * t.val + (128 * (ρ.val / 512) + ρ.val % 128)
  omega

theorem part_eq (p : Fin 3) (d : Fin 128) (b : Fin 512) (i : Fin 384) (h : i.val = 128 * p.val + d.val) :
    (iblk m c 1 t) (ix2 i b) = part (m ((c : Thread nD τ).loc main_arg0) (ix2 b d)) p :=
  (congrFun (blk1 m c t) _).trans (V_parts m c p d b i h)

theorem grad_alike : Alike (gB (iblk m c 0 t) (iblk m c 1 t) ρ)
    (gR (m ((c : Thread nD τ).loc main_arg0)) (m ((c : Thread nD τ).loc main_arg1)) (urow t ρ)) := by
  intro d
  have h := split_sum (fun b => m ((c : Thread nD τ).loc main_arg0) (ix2 b d))
    (look (m ((c : Thread nD τ).loc main_arg1)) (urow t ρ)) (fun b => sByte_coe _ _)
  have e : gB (iblk m c 0 t) (iblk m c 1 t) ρ d
      = (∑ b, part (m ((c : Thread nD τ).loc main_arg0) (ix2 b d)) 0 * look (m ((c : Thread nD τ).loc main_arg1)) (urow t ρ) b)
        + (∑ b, part (m ((c : Thread nD τ).loc main_arg0) (ix2 b d)) 1 * look (m ((c : Thread nD τ).loc main_arg1)) (urow t ρ) b)
        + ∑ b, part (m ((c : Thread nD τ).loc main_arg0) (ix2 b d)) 2 * look (m ((c : Thread nD τ).loc main_arg1)) (urow t ρ) b := by
    unfold gB
    refine congrArg₂ (· + ·) (congrArg₂ (· + ·) ?_ ?_) ?_ <;>
      refine Finset.sum_congr rfl fun b _ => congrArg₂ (· * ·) (part_eq m c t _ d b _ ?_) (look_eq m c t ρ b)
    · show d.val = 128 * 0 + d.val; omega
    · show 128 + d.val = 128 * 1 + d.val; omega
    · show 256 + d.val = 128 * 2 + d.val; omega
  rw [e]
  exact h

theorem state_eq : stB (iblk m c 0 t) (iblk m c 1 t) (iblk m c 5 t) ρ
    = stR (m ((c : Thread nD τ).loc main_arg0)) (m ((c : Thread nD τ).loc main_arg1)) (m ((c : Thread nD τ).loc main_arg5)) (urow t ρ) := by
  unfold stB stR
  rw [stateRow_alike (grad_alike m c t ρ)]
  exact congrArg _ (blk5 m c t 0 ρ)

theorem weights_eq : wB (iblk m c 0 t) (iblk m c 1 t) (iblk m c 2 t) (iblk m c 3 t) (iblk m c 4 t) (iblk m c 5 t) ρ
    = wR (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (urow t ρ) := by
  unfold wB wR
  rw [wRow_alike (grad_alike m c t ρ), code_eq m c t ρ]
  have h3 : (fun k => iblk m c 3 t (ix2 k ρ)) = fun k => m ((c : Thread nD τ).loc main_arg3) (ix2 k (urow t ρ)) :=
    funext fun k => blk3 m c t k ρ
  have h4 : (fun k => iblk m c 4 t (ix2 k ρ)) = fun k => m ((c : Thread nD τ).loc main_arg4) (ix2 k (urow t ρ)) :=
    funext fun k => blk4 m c t k ρ
  exact (congrArg (fun s => wRow _ _ s _ _) h3).trans ((congrArg (fun b => wRow _ _ _ b _) h4).trans
    (congrArg (wRow _ _ _ _) (blk5 m c t 0 ρ)))

theorem result7 : (dats m 0 c).arrAt 7 cfg0.N
    = Cert.ReferenceIdeal.Read.val_main_v101 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) :=
  final7 m c _ fun t ρ d => by
    refine (out7_apply _ _ _ _ _ _ _ ρ d).trans (Eq.trans ?_ (v101_apply _ _ _ _ _ _ _ (urow t ρ) d).symm)
    rw [weights_eq m c t ρ]
    exact congrArg _ (blk6 m c t ρ d)

theorem result8 : (dats m 0 c).arrAt 8 cfg0.N
    = Cert.ReferenceIdeal.Read.val_main_v102 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) :=
  final8 m c _ fun t k ρ => by
    refine (out8_apply _ _ _ _ _ _ _ k ρ).trans (Eq.trans ?_ (v102_apply _ _ _ _ _ _ k (urow t ρ)).symm)
    rw [weights_eq m c t ρ]

theorem result9 : (dats m 0 c).arrAt 9 cfg0.N
    = Cert.ReferenceIdeal.Read.val_main_v103 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) :=
  final9 m c _ fun t k ρ => by
    refine (out9_apply _ _ _ _ _ _ _ k ρ).trans (Eq.trans ?_ (v103_apply _ _ _ _ _ _ k (urow t ρ)).symm)
    rw [weights_eq m c t ρ]

theorem result10 : (dats m 0 c).arrAt 10 cfg0.N
    = Cert.ReferenceIdeal.Read.val_main_v104 (F := Ideal) (m ((c : Thread nD τ).loc main_arg0)) (m ((c : Thread nD τ).loc main_arg1))
      (m ((c : Thread nD τ).loc main_arg5)) :=
  final10 m c _ fun t z ρ => by
    refine (out10_apply _ _ _ _ _ _ _ z ρ).trans (Eq.trans ?_ (v104_apply _ _ _ z (urow t ρ)).symm)
    exact state_eq m c t ρ

end Cert.Proof.Final

end
-- ==== Proof.lean ====
/-
  Hand-written, untrusted. The proof of `Cert.Claim` (proof/Defs.lean): the two generated frames, the reference's frame from its
  run, and the algebraic claim from the four result arrays (Proof/Final.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import Idealize.ShloMosaic.Adequacy
public import Idealize.ShloMosaic.Init

@[expose] public section

noncomputable section

namespace Cert.Proof

open Idealize.ShloMosaic Idealize.SL.Sem

/-- The reference runs and leaves its arguments unchanged; it declares no semaphore. -/
theorem frame_reference : Cert.quiescent_ReferenceIdeal (hReferenceIdeal := Cert.ReferenceIdeal.Gen.facts) := by
  intro m ρ _
  exact (θ_run (Cert.ReferenceIdeal.defs (F := Ideal)) _ _).mono
    (fun r h => ⟨fun c => (h c).2.2.2.2, Idealize.ShloMosaic.sem_eq_zero_of_no_sems (by decide) r.2⟩)
    (Cert.ReferenceIdeal.Value.run (F := Ideal) m ρ)

/-- From equal arguments, the kernel's four results are the reference's four results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, _, Cert.KernelIdeal.Value.run_blocks (F := Ideal) m g, ?_⟩
  refine (θ_run (Cert.ReferenceIdeal.defs (F := Ideal)) _ _).mono (fun r h c => ?_) (Cert.ReferenceIdeal.Value.run (F := Ideal) m' g')
  obtain ⟨h0, h1, h2, h3, hk⟩ := h c
  obtain ⟨a0, a1, a2, a3, a4, a5, a6⟩ := hargs c
  refine ⟨h0.trans ?_, h1.trans ?_, h2.trans ?_, h3.trans ?_, hk⟩
  · refine (Cert.ReferenceIdeal.Read.val_main_v101_eq m' c).trans (Eq.trans ?_ (Final.result7 m c).symm)
    rw [a0, a1, a2, a3, a4, a5, a6]
  · refine (Cert.ReferenceIdeal.Read.val_main_v102_eq m' c).trans (Eq.trans ?_ (Final.result8 m c).symm)
    rw [a0, a1, a2, a3, a4, a5]
  · refine (Cert.ReferenceIdeal.Read.val_main_v103_eq m' c).trans (Eq.trans ?_ (Final.result9 m c).symm)
    rw [a0, a1, a2, a3, a4, a5]
  · refine (Cert.ReferenceIdeal.Read.val_main_v104_eq m' c).trans (Eq.trans ?_ (Final.result10 m c).symm)
    rw [a0, a1, a5]

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, algebraic⟩

end Cert.Proof

end
